-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .bf16 0xFE96#16 ⊥
  ∧ IdealRules.named_const.Statement Cert.KernelIdeal.κ "scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v111_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x640x2560 : Shape := ⟨3, ![3, 640, 2560]⟩
abbrev S3x640x256 : Shape := ⟨3, ![3, 640, 256]⟩
abbrev S_ : Shape := ⟨0, ![]⟩

class Facts : Prop where
  bitsLt_bf16_f32 : FTy.bits .bf16 < FTy.bits .f32
  bcast_S_S3x640x2560 : S_.BroadcastsInDim S3x640x2560 (![] : Fin 0 → Fin S3x640x2560.rank)
  bcast_S_S3x640x256 : S_.BroadcastsInDim S3x640x256 (![] : Fin 0 → Fin S3x640x256.rank)

variable [Facts]

def fn {F : FTy → Type} [FloatOps F] (main_arg0 : FVec F S3x640x2560 .bf16) (main_arg1 : FVec F S3x640x256 .bf16) (main_arg2 : FVec F S3x640x256 .bf16) : IVec S3x640x2560 1 × IVec S3x640x256 1 × IVec S3x640x256 1 :=
  let main_v0 : FVec F S3x640x2560 .f32 := (extf .f32 · bitsLt_bf16_f32) main_arg0
  let main_v1 : FVec F S3x640x2560 .f32 := Host.absf main_v0
  let main_cst : FVec F S_ .f32 := constant S_ .f32 0x7F7F0000#32
  let main_v2 : FVec F S3x640x2560 .f32 := broadcastInDim S3x640x2560 ![] bcast_S_S3x640x2560 main_cst
  let main_v3 : IVec S3x640x2560 1 := cmpf .ole main_v1 main_v2
  let main_v4 : FVec F S3x640x256 .f32 := (extf .f32 · bitsLt_bf16_f32) main_arg1
  let main_v5 : FVec F S3x640x256 .f32 := Host.absf main_v4
  let main_cst_0 : FVec F S_ .f32 := constant S_ .f32 0x7F7F0000#32
  let main_v6 : FVec F S3x640x256 .f32 := broadcastInDim S3x640x256 ![] bcast_S_S3x640x256 main_cst_0
  let main_v7 : IVec S3x640x256 1 := cmpf .ole main_v5 main_v6
  let main_v8 : FVec F S3x640x256 .f32 := (extf .f32 · bitsLt_bf16_f32) main_arg2
  let main_v9 : FVec F S3x640x256 .f32 := Host.absf main_v8
  let main_cst_1 : FVec F S_ .f32 := constant S_ .f32 0x7F7F0000#32
  let main_v10 : FVec F S3x640x256 .f32 := broadcastInDim S3x640x256 ![] bcast_S_S3x640x256 main_cst_1
  let main_v11 : IVec S3x640x256 1 := cmpf .ole main_v9 main_v10
  (main_v3, main_v7, main_v11)
-- ==== Kernel.lean ====
abbrev S3x640x2560 : Shape := ⟨3, ![3, 640, 2560]⟩
abbrev S3x640x256 : Shape := ⟨3, ![3, 640, 256]⟩
abbrev S2x128x10x64 : Shape := ⟨4, ![2, 128, 10, 64]⟩
abbrev S_ : Shape := ⟨0, ![]⟩
abbrev S2x128x640 : Shape := ⟨3, ![2, 128, 640]⟩
abbrev S10x64x128 : Shape := ⟨3, ![10, 64, 128]⟩
abbrev S640x128 : Shape := ⟨2, ![640, 128]⟩
abbrev S3x20x640x128 : Shape := ⟨4, ![3, 20, 640, 128]⟩
abbrev S3x20x4x640 : Shape := ⟨4, ![3, 20, 4, 640]⟩
abbrev S3x2x640x128 : Shape := ⟨4, ![3, 2, 640, 128]⟩
abbrev S3x2x4x640 : Shape := ⟨4, ![3, 2, 4, 640]⟩
abbrev S3x2x640 : Shape := ⟨3, ![3, 2, 640]⟩
abbrev S1x640x1280 : Shape := ⟨3, ![1, 640, 1280]⟩
abbrev S1x640x128 : Shape := ⟨3, ![1, 640, 128]⟩
abbrev S1x128x640 : Shape := ⟨3, ![1, 128, 640]⟩
abbrev S1x10x640x128 : Shape := ⟨4, ![1, 10, 640, 128]⟩
abbrev S1x10x4x640 : Shape := ⟨4, ![1, 10, 4, 640]⟩
abbrev S1x1x640x128 : Shape := ⟨4, ![1, 1, 640, 128]⟩
abbrev S1x1x4x640 : Shape := ⟨4, ![1, 1, 4, 640]⟩
abbrev S1x2x640 : Shape := ⟨3, ![1, 2, 640]⟩
abbrev S128x640 : Shape := ⟨2, ![128, 640]⟩
abbrev S8x128 : Shape := ⟨2, ![8, 128]⟩
abbrev S5x4x128 : Shape := ⟨3, ![5, 4, 128]⟩
abbrev S640x256 : Shape := ⟨2, ![640, 256]⟩
abbrev S4x32x640 : Shape := ⟨3, ![4, 32, 640]⟩
abbrev S4x640 : Shape := ⟨2, ![4, 640]⟩
abbrev S4x1x640 : Shape := ⟨3, ![4, 1, 640]⟩
abbrev S640 : Shape := ⟨1, ![640]⟩
abbrev S640x1 : Shape := ⟨2, ![640, 1]⟩
abbrev S1x640 : Shape := ⟨2, ![1, 640]⟩
abbrev S1x1x640 : Shape := ⟨3, ![1, 1, 640]⟩
abbrev S64x128 : Shape := ⟨2, ![64, 128]⟩
abbrev S64x256 : Shape := ⟨2, ![64, 256]⟩
abbrev S1x64x128 : Shape := ⟨3, ![1, 64, 128]⟩
abbrev S128x128 : Shape := ⟨2, ![128, 128]⟩
abbrev S4x32x128 : Shape := ⟨3, ![4, 32, 128]⟩
abbrev S4x128 : Shape := ⟨2, ![4, 128]⟩
abbrev S4x1x128 : Shape := ⟨3, ![4, 1, 128]⟩
abbrev S1x128x128 : Shape := ⟨3, ![1, 128, 128]⟩
abbrev S1x1x64x128 : Shape := ⟨4, ![1, 1, 64, 128]⟩
abbrev S1x4x128 : Shape := ⟨3, ![1, 4, 128]⟩
abbrev S1x128x256 : Shape := ⟨3, ![1, 128, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S128x64 : Shape := ⟨2, ![128, 64]⟩
abbrev S256x128 : Shape := ⟨2, ![256, 128]⟩
abbrev S128 : Shape := ⟨1, ![128]⟩
abbrev S1x128 : Shape := ⟨2, ![1, 128]⟩
abbrev S1x1x4x128 : Shape := ⟨4, ![1, 1, 4, 128]⟩
abbrev S192x128 : Shape := ⟨2, ![192, 128]⟩
abbrev S192x256 : Shape := ⟨2, ![192, 256]⟩
abbrev S128x192 : Shape := ⟨2, ![128, 192]⟩
abbrev S320x128 : Shape := ⟨2, ![320, 128]⟩
abbrev S320x256 : Shape := ⟨2, ![320, 256]⟩
abbrev S128x320 : Shape := ⟨2, ![128, 320]⟩
abbrev S384x128 : Shape := ⟨2, ![384, 128]⟩
abbrev S384x256 : Shape := ⟨2, ![384, 256]⟩
abbrev S128x384 : Shape := ⟨2, ![128, 384]⟩
abbrev S448x128 : Shape := ⟨2, ![448, 128]⟩
abbrev S448x256 : Shape := ⟨2, ![448, 256]⟩
abbrev S128x448 : Shape := ⟨2, ![128, 448]⟩
abbrev S512x128 : Shape := ⟨2, ![512, 128]⟩
abbrev S512x256 : Shape := ⟨2, ![512, 256]⟩
abbrev S128x512 : Shape := ⟨2, ![128, 512]⟩
abbrev S576x128 : Shape := ⟨2, ![576, 128]⟩
abbrev S576x256 : Shape := ⟨2, ![576, 256]⟩
abbrev S128x576 : Shape := ⟨2, ![128, 576]⟩

abbrev nBuf : Space → Nat
  | .hbm => 165
  | .vmem => 31
  | .smem => 0
  | _ => 0

abbrev hbmTy0_0 (i : Nat) : BufTy := match i % 128 with
  | 0 => ⟨S3x640x2560, .bf16⟩
  | 1 => ⟨S3x640x256, .bf16⟩
  | 2 => ⟨S3x640x256, .bf16⟩
  | 3 => ⟨S2x128x10x64, .i32⟩
  | 4 => ⟨S2x128x10x64, .i32⟩
  | 5 => ⟨S2x128x10x64, .i32⟩
  | 6 => ⟨S2x128x10x64, .i32⟩
  | 7 => ⟨S_, .i32⟩
  | 8 => ⟨S2x128x10x64, .i32⟩
  | 9 => ⟨S2x128x10x64, .i32⟩
  | 10 => ⟨S2x128x10x64, .i32⟩
  | 11 => ⟨S_, .i32⟩
  | 12 => ⟨S2x128x10x64, .i32⟩
  | 13 => ⟨S2x128x10x64, .i1⟩
  | 14 => ⟨S_, .i32⟩
  | 15 => ⟨S2x128x10x64, .i32⟩
  | 16 => ⟨S2x128x10x64, .i32⟩
  | 17 => ⟨S_, .i32⟩
  | 18 => ⟨S2x128x10x64, .i32⟩
  | 19 => ⟨S2x128x10x64, .i32⟩
  | 20 => ⟨S_, .i32⟩
  | 21 => ⟨S2x128x10x64, .i32⟩
  | 22 => ⟨S2x128x10x64, .i32⟩
  | 23 => ⟨S_, .i32⟩
  | 24 => ⟨S2x128x10x64, .i32⟩
  | 25 => ⟨S2x128x10x64, .i32⟩
  | 26 => ⟨S2x128x10x64, .i32⟩
  | 27 => ⟨S2x128x10x64, .f32⟩
  | 28 => ⟨S_, .f32⟩
  | 29 => ⟨S2x128x10x64, .f32⟩
  | 30 => ⟨S2x128x10x64, .f32⟩
  | 31 => ⟨S_, .f32⟩
  | 32 => ⟨S2x128x10x64, .f32⟩
  | 33 => ⟨S2x128x10x64, .f32⟩
  | 34 => ⟨S2x128x10x64, .i1⟩
  | 35 => ⟨S_, .f32⟩
  | 36 => ⟨S_, .f32⟩
  | 37 => ⟨S2x128x10x64, .f32⟩
  | 38 => ⟨S2x128x10x64, .f32⟩
  | 39 => ⟨S2x128x10x64, .f32⟩
  | 40 => ⟨S_, .f32⟩
  | 41 => ⟨S_, .f32⟩
  | 42 => ⟨S_, .f32⟩
  | 43 => ⟨S2x128x10x64, .f32⟩
  | 44 => ⟨S2x128x10x64, .f32⟩
  | 45 => ⟨S2x128x10x64, .bf16⟩
  | 46 => ⟨S2x128x10x64, .f32⟩
  | 47 => ⟨S2x128x10x64, .f32⟩
  | 48 => ⟨S2x128x10x64, .bf16⟩
  | 49 => ⟨S2x128x10x64, .f32⟩
  | 50 => ⟨S2x128x10x64, .f32⟩
  | 51 => ⟨S2x128x10x64, .bf16⟩
  | 52 => ⟨S2x128x10x64, .f32⟩
  | 53 => ⟨S2x128x10x64, .f32⟩
  | 54 => ⟨S_, .i32⟩
  | 55 => ⟨S2x128x10x64, .i32⟩
  | 56 => ⟨S2x128x10x64, .i1⟩
  | 57 => ⟨S_, .i32⟩
  | 58 => ⟨S2x128x10x64, .i32⟩
  | 59 => ⟨S2x128x10x64, .i1⟩
  | 60 => ⟨S2x128x10x64, .i1⟩
  | 61 => ⟨S2x128x10x64, .f32⟩
  | 62 => ⟨S2x128x10x64, .f32⟩
  | 63 => ⟨S_, .i32⟩
  | 64 => ⟨S2x128x10x64, .i32⟩
  | 65 => ⟨S2x128x10x64, .i1⟩
  | 66 => ⟨S_, .i32⟩
  | 67 => ⟨S2x128x10x64, .i32⟩
  | 68 => ⟨S2x128x10x64, .i1⟩
  | 69 => ⟨S2x128x10x64, .i1⟩
  | 70 => ⟨S2x128x10x64, .f32⟩
  | 71 => ⟨S_, .i32⟩
  | 72 => ⟨S2x128x10x64, .i32⟩
  | 73 => ⟨S2x128x10x64, .i1⟩
  | 74 => ⟨S_, .i32⟩
  | 75 => ⟨S2x128x10x64, .i32⟩
  | 76 => ⟨S2x128x10x64, .i1⟩
  | 77 => ⟨S2x128x10x64, .i1⟩
  | 78 => ⟨S2x128x10x64, .f32⟩
  | 79 => ⟨S_, .f32⟩
  | 80 => ⟨S_, .f32⟩
  | 81 => ⟨S_, .f32⟩
  | 82 => ⟨S_, .f32⟩
  | 83 => ⟨S_, .f32⟩
  | 84 => ⟨S_, .bf16⟩
  | 85 => ⟨S_, .f32⟩
  | 86 => ⟨S_, .f32⟩
  | 87 => ⟨S_, .f32⟩
  | 88 => ⟨S_, .bf16⟩
  | 89 => ⟨S_, .f32⟩
  | 90 => ⟨S_, .f32⟩
  | 91 => ⟨S_, .bf16⟩
  | 92 => ⟨S_, .f32⟩
  | 93 => ⟨S_, .f32⟩
  | 94 => ⟨S_, .i32⟩
  | 95 => ⟨S2x128x10x64, .i32⟩
  | 96 => ⟨S2x128x10x64, .i1⟩
  | 97 => ⟨S2x128x10x64, .f32⟩
  | 98 => ⟨S2x128x10x64, .f32⟩
  | 99 => ⟨S_, .i32⟩
  | 100 => ⟨S2x128x10x64, .i32⟩
  | 101 => ⟨S2x128x10x64, .i1⟩
  | 102 => ⟨S2x128x10x64, .f32⟩
  | 103 => ⟨S2x128x10x64, .f32⟩
  | 104 => ⟨S_, .i32⟩
  | 105 => ⟨S2x128x10x64, .i32⟩
  | 106 => ⟨S2x128x10x64, .i1⟩
  | 107 => ⟨S2x128x10x64, .f32⟩
  | 108 => ⟨S2x128x10x64, .f32⟩
  | 109 => ⟨S_, .i32⟩
  | 110 => ⟨S2x128x10x64, .i32⟩
  | 111 => ⟨S2x128x10x64, .i1⟩
  | 112 => ⟨S_, .f32⟩
  | 113 => ⟨S_, .f32⟩
  | 114 => ⟨S2x128x10x64, .f32⟩
  | 115 => ⟨S2x128x10x64, .f32⟩
  | 116 => ⟨S2x128x640, .f32⟩
  | 117 => ⟨S2x128x640, .bf16⟩
  | 118 => ⟨S10x64x128, .i32⟩
  | 119 => ⟨S10x64x128, .i32⟩
  | 120 => ⟨S10x64x128, .i32⟩
  | 121 => ⟨S_, .i32⟩
  | 122 => ⟨S10x64x128, .i32⟩
  | 123 => ⟨S10x64x128, .i1⟩
  | 124 => ⟨S10x64x128, .i1⟩
  | 125 => ⟨S10x64x128, .i1⟩
  | 126 => ⟨S_, .f32⟩
  | 127 => ⟨S_, .f32⟩
  | _ => ⟨S3x640x2560, .bf16⟩

abbrev hbmTy0_1 (i : Nat) : BufTy := match i % 128 with
  | 0 => ⟨S10x64x128, .f32⟩
  | 1 => ⟨S10x64x128, .f32⟩
  | 2 => ⟨S10x64x128, .f32⟩
  | 3 => ⟨S_, .i32⟩
  | 4 => ⟨S10x64x128, .i32⟩
  | 5 => ⟨S10x64x128, .i1⟩
  | 6 => ⟨S_, .i32⟩
  | 7 => ⟨S10x64x128, .i32⟩
  | 8 => ⟨S10x64x128, .i1⟩
  | 9 => ⟨S10x64x128, .i1⟩
  | 10 => ⟨S10x64x128, .f32⟩
  | 11 => ⟨S10x64x128, .f32⟩
  | 12 => ⟨S10x64x128, .f32⟩
  | 13 => ⟨S_, .i32⟩
  | 14 => ⟨S10x64x128, .i32⟩
  | 15 => ⟨S10x64x128, .i1⟩
  | 16 => ⟨S_, .i32⟩
  | 17 => ⟨S10x64x128, .i32⟩
  | 18 => ⟨S10x64x128, .i1⟩
  | 19 => ⟨S10x64x128, .i1⟩
  | 20 => ⟨S_, .i32⟩
  | 21 => ⟨S10x64x128, .i32⟩
  | 22 => ⟨S10x64x128, .i32⟩
  | 23 => ⟨S_, .i32⟩
  | 24 => ⟨S10x64x128, .i32⟩
  | 25 => ⟨S10x64x128, .i32⟩
  | 26 => ⟨S10x64x128, .f32⟩
  | 27 => ⟨S10x64x128, .f32⟩
  | 28 => ⟨S640x128, .f32⟩
  | 29 => ⟨S640x128, .bf16⟩
  | 30 => ⟨S3x640x2560, .bf16⟩
  | 31 => ⟨S3x20x640x128, .fp8e4m3⟩
  | 32 => ⟨S3x20x4x640, .i8⟩
  | 33 => ⟨S3x2x640x128, .fp8e4m3⟩
  | 34 => ⟨S3x2x4x640, .i8⟩
  | 35 => ⟨S3x2x640x128, .fp8e4m3⟩
  | 36 => ⟨S3x2x640, .f32⟩
  | _ => ⟨S3x640x2560, .bf16⟩

abbrev hbmTy (i : Nat) : BufTy := match i / 128 with
  | 0 => hbmTy0_0 i
  | 1 => hbmTy0_1 i
  | _ => ⟨S3x640x2560, .bf16⟩

abbrev bufTy : (tb : Table) → Fin (tcTables nBuf tb) → BufTy
  | .hbm, ⟨i, _⟩ => hbmTy i
  | .local _ .vmem, ⟨0, _⟩ => ⟨S1x640x1280, .bf16⟩
  | .local _ .vmem, ⟨1, _⟩ => ⟨S1x640x1280, .bf16⟩
  | .local _ .vmem, ⟨2, _⟩ => ⟨S1x640x128, .bf16⟩
  | .local _ .vmem, ⟨3, _⟩ => ⟨S1x640x128, .bf16⟩
  | .local _ .vmem, ⟨4, _⟩ => ⟨S1x640x128, .bf16⟩
  | .local _ .vmem, ⟨5, _⟩ => ⟨S1x640x128, .bf16⟩
  | .local _ .vmem, ⟨6, _⟩ => ⟨S1x128x640, .bf16⟩
  | .local _ .vmem, ⟨7, _⟩ => ⟨S1x128x640, .bf16⟩
  | .local _ .vmem, ⟨8, _⟩ => ⟨S640x128, .bf16⟩
  | .local _ .vmem, ⟨9, _⟩ => ⟨S1x640x1280, .bf16⟩
  | .local _ .vmem, ⟨10, _⟩ => ⟨S1x640x1280, .bf16⟩
  | .local _ .vmem, ⟨11, _⟩ => ⟨S1x10x640x128, .fp8e4m3⟩
  | .local _ .vmem, ⟨12, _⟩ => ⟨S1x10x640x128, .fp8e4m3⟩
  | .local _ .vmem, ⟨13, _⟩ => ⟨S1x10x4x640, .i8⟩
  | .local _ .vmem, ⟨14, _⟩ => ⟨S1x10x4x640, .i8⟩
  | .local _ .vmem, ⟨15, _⟩ => ⟨S1x1x640x128, .fp8e4m3⟩
  | .local _ .vmem, ⟨16, _⟩ => ⟨S1x1x640x128, .fp8e4m3⟩
  | .local _ .vmem, ⟨17, _⟩ => ⟨S1x1x4x640, .i8⟩
  | .local _ .vmem, ⟨18, _⟩ => ⟨S1x1x4x640, .i8⟩
  | .local _ .vmem, ⟨19, _⟩ => ⟨S1x1x640x128, .fp8e4m3⟩
  | .local _ .vmem, ⟨20, _⟩ => ⟨S1x1x640x128, .fp8e4m3⟩
  | .local _ .vmem, ⟨21, _⟩ => ⟨S1x2x640, .f32⟩
  | .local _ .vmem, ⟨22, _⟩ => ⟨S1x2x640, .f32⟩
  | .local _ .vmem, ⟨23, _⟩ => ⟨S640x128, .bf16⟩
  | .local _ .vmem, ⟨24, _⟩ => ⟨S128x640, .fp8e4m3⟩
  | .local _ .vmem, ⟨25, _⟩ => ⟨S640x128, .f32⟩
  | .local _ .vmem, ⟨26, _⟩ => ⟨S8x128, .bf16⟩
  | .local _ .vmem, ⟨27, _⟩ => ⟨S2x128x640, .bf16⟩
  | .local _ .vmem, ⟨28, _⟩ => ⟨S5x4x128, .i32⟩
  | .local _ .vmem, ⟨29, _⟩ => ⟨S640x256, .f32⟩
  | .local _ .vmem, ⟨30, _⟩ => ⟨S640x256, .f32⟩
  | _, _ => ⟨S3x640x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call2_v0 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_c_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_17 : Ref sig .tc := ⟨.hbm, 94, rfl⟩
abbrev main_v69 : Ref sig .tc := ⟨.hbm, 95, rfl⟩
abbrev main_v70 : Ref sig .tc := ⟨.hbm, 96, rfl⟩
abbrev main_call5_v0 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_call6_v0 : Ref sig .tc := ⟨.hbm, 102, rfl⟩
abbrev main_v74 : Ref sig .tc := ⟨.hbm, 103, rfl⟩
abbrev main_c_19 : Ref sig .tc := ⟨.hbm, 104, rfl⟩
abbrev main_v75 : Ref sig .tc := ⟨.hbm, 105, rfl⟩
abbrev main_v76 : Ref sig .tc := ⟨.hbm, 106, rfl⟩
abbrev main_call7_v0 : Ref sig .tc := ⟨.hbm, 107, rfl⟩
abbrev main_v77 : Ref sig .tc := ⟨.hbm, 108, rfl⟩
abbrev main_c_20 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_call8_v0 : Ref sig .tc := ⟨.hbm, 113, rfl⟩
abbrev main_call8_v1 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_22 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_23 : Ref sig .tc := ⟨.hbm, 126, rfl⟩
abbrev main_cst_24 : Ref sig .tc := ⟨.hbm, 127, rfl⟩
abbrev main_call9_v0 : Ref sig .tc := ⟨.hbm, 128, rfl⟩
abbrev main_call9_v1 : Ref sig .tc := ⟨.hbm, 129, rfl⟩
abbrev main_v90 : Ref sig .tc := ⟨.hbm, 130, rfl⟩
abbrev main_c_25 : Ref sig .tc := ⟨.hbm, 131, rfl⟩
abbrev main_v91 : Ref sig .tc := ⟨.hbm, 132, rfl⟩
abbrev main_v92 : Ref sig .tc := ⟨.hbm, 133, rfl⟩
abbrev main_c_26 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call10_v0 : Ref sig .tc := ⟨.hbm, 139, rfl⟩
abbrev main_v97 : Ref sig .tc := ⟨.hbm, 140, rfl⟩
abbrev main_c_27 : Ref sig .tc := ⟨.hbm, 141, rfl⟩
abbrev main_v98 : Ref sig .tc := ⟨.hbm, 142, rfl⟩
abbrev main_v99 : Ref sig .tc := ⟨.hbm, 143, rfl⟩
abbrev main_c_28 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_29 : Ref sig .tc := ⟨.hbm, 148, rfl⟩
abbrev main_v103 : Ref sig .tc := ⟨.hbm, 149, rfl⟩
abbrev main_v104 : Ref sig .tc := ⟨.hbm, 150, rfl⟩
abbrev main_c_30 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111_0 : Ref sig .tc := ⟨.hbm, 158, rfl⟩
abbrev main_v111_1 : Ref sig .tc := ⟨.hbm, 159, rfl⟩
abbrev main_v111_2 : Ref sig .tc := ⟨.hbm, 160, rfl⟩
abbrev main_v111_3 : Ref sig .tc := ⟨.hbm, 161, rfl⟩
abbrev main_v111_4 : Ref sig .tc := ⟨.hbm, 162, rfl⟩
abbrev main_v111_5 : Ref sig .tc := ⟨.hbm, 163, rfl⟩
abbrev main_v111_6 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![3, 2], ![false, false]⟩

def k0_off1 (i : grid0.Coords) : Fin 3 → Nat :=
  let c0_45 : Index := 0#32
  let arg1 : BitVec 32 := BitVec.ofNat 32 (i 1).val
  let v121 : Index := Scalar.indexCast arg1
  let c0_46 : Index := 0#32
  ![0, v121.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S640x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x640x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x10x640x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x10x4x640 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x640x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4x640 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x640x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ * (Real.log 2)⁻¹ : ℝ) : EReal)
  | _ => none
-- ==== ReferenceIdeal.lean ====
abbrev S3x640x2560 : Shape := ⟨3, ![3, 640, 2560]⟩
abbrev S3x640x256 : Shape := ⟨3, ![3, 640, 256]⟩
abbrev S3x640x2x10x128 : Shape := ⟨5, ![3, 640, 2, 10, 128]⟩
abbrev S3x640x2x10x4x32 : Shape := ⟨6, ![3, 640, 2, 10, 4, 32]⟩
abbrev S_ : Shape := ⟨0, ![]⟩
abbrev S3x640x2x10x4 : Shape := ⟨5, ![3, 640, 2, 10, 4]⟩
abbrev S3x640x2x10x4x1 : Shape := ⟨6, ![3, 640, 2, 10, 4, 1]⟩
abbrev S3x640x2x128 : Shape := ⟨4, ![3, 640, 2, 128]⟩
abbrev S3x640x2x4x32 : Shape := ⟨5, ![3, 640, 2, 4, 32]⟩
abbrev S3x640x2x4 : Shape := ⟨4, ![3, 640, 2, 4]⟩
abbrev S3x640x2x4x1 : Shape := ⟨5, ![3, 640, 2, 4, 1]⟩
abbrev S3x640x2 : Shape := ⟨3, ![3, 640, 2]⟩
abbrev S3x640x2x1 : Shape := ⟨4, ![3, 640, 2, 1]⟩
abbrev S3x2x10x640x128 : Shape := ⟨5, ![3, 2, 10, 640, 128]⟩
abbrev S3x2x640x128 : Shape := ⟨4, ![3, 2, 640, 128]⟩
abbrev S3x2x640 : Shape := ⟨3, ![3, 2, 640]⟩
abbrev S32 : Shape := ⟨1, ![32]⟩
abbrev S16 : Shape := ⟨1, ![16]⟩
abbrev S20 : Shape := ⟨1, ![20]⟩
abbrev S2x10 : Shape := ⟨2, ![2, 10]⟩
abbrev S640x640 : Shape := ⟨2, ![640, 640]⟩
abbrev S3x2x10x640x640 : Shape := ⟨5, ![3, 2, 10, 640, 640]⟩
abbrev S1x2x10x1x1 : Shape := ⟨5, ![1, 2, 10, 1, 1]⟩
abbrev S1x1x1x640x640 : Shape := ⟨5, ![1, 1, 1, 640, 640]⟩
abbrev S1x2x10x640x640 : Shape := ⟨5, ![1, 2, 10, 640, 640]⟩
abbrev S3x2x10x640 : Shape := ⟨4, ![3, 2, 10, 640]⟩
abbrev S3x2x10x640x1 : Shape := ⟨5, ![3, 2, 10, 640, 1]⟩
abbrev S3x2x1x1x640 : Shape := ⟨5, ![3, 2, 1, 1, 640]⟩

abbrev nBuf : Space → Nat
  | .hbm => 248
  | .vmem => 0
  | .smem => 0
  | _ => 0

abbrev hbmTy0_0 (i : Nat) : BufTy := match i % 128 with
  | 0 => ⟨S3x640x2560, .bf16⟩
  | 1 => ⟨S3x640x256, .bf16⟩
  | 2 => ⟨S3x640x256, .bf16⟩
  | 3 => ⟨S3x640x2x10x128, .bf16⟩
  | 4 => ⟨S3x640x2x10x128, .f32⟩
  | 5 => ⟨S3x640x2x10x4x32, .f32⟩
  | 6 => ⟨S3x640x2x10x4x32, .f32⟩
  | 7 => ⟨S_, .f32⟩
  | 8 => ⟨S3x640x2x10x4, .f32⟩
  | 9 => ⟨S3x640x2x10x4x1, .f32⟩
  | 10 => ⟨S_, .f32⟩
  | 11 => ⟨S3x640x2x10x4x1, .f32⟩
  | 12 => ⟨S3x640x2x10x4x1, .i1⟩
  | 13 => ⟨S_, .f32⟩
  | 14 => ⟨S3x640x2x10x4x1, .f32⟩
  | 15 => ⟨S3x640x2x10x4x1, .f32⟩
  | 16 => ⟨S3x640x2x10x4x1, .f32⟩
  | 17 => ⟨S_, .f32⟩
  | 18 => ⟨S_, .f32⟩
  | 19 => ⟨S_, .f32⟩
  | 20 => ⟨S3x640x2x10x4x1, .f32⟩
  | 21 => ⟨S3x640x2x10x4x1, .f32⟩
  | 22 => ⟨S3x640x2x10x4x1, .f32⟩
  | 23 => ⟨S_, .f32⟩
  | 24 => ⟨S3x640x2x10x4x1, .f32⟩
  | 25 => ⟨S3x640x2x10x4x1, .f32⟩
  | 26 => ⟨S_, .f32⟩
  | 27 => ⟨S_, .f32⟩
  | 28 => ⟨S3x640x2x10x4x1, .f32⟩
  | 29 => ⟨S3x640x2x10x4x1, .f32⟩
  | 30 => ⟨S3x640x2x10x4x1, .f32⟩
  | 31 => ⟨S_, .f32⟩
  | 32 => ⟨S3x640x2x10x4x1, .f32⟩
  | 33 => ⟨S3x640x2x10x4x1, .f32⟩
  | 34 => ⟨S3x640x2x10x4x32, .f32⟩
  | 35 => ⟨S3x640x2x10x4x32, .f32⟩
  | 36 => ⟨S_, .f32⟩
  | 37 => ⟨S_, .f32⟩
  | 38 => ⟨S_, .f32⟩
  | 39 => ⟨S3x640x2x10x4x32, .f32⟩
  | 40 => ⟨S3x640x2x10x4x32, .f32⟩
  | 41 => ⟨S_, .f32⟩
  | 42 => ⟨S3x640x2x10x4x32, .f32⟩
  | 43 => ⟨S3x640x2x10x4x32, .f32⟩
  | 44 => ⟨S_, .f32⟩
  | 45 => ⟨S3x640x2x10x4x1, .f32⟩
  | 46 => ⟨S3x640x2x10x4x1, .f32⟩
  | 47 => ⟨S3x640x2x10x4x32, .bf16⟩
  | 48 => ⟨S3x640x2x10x4x1, .bf16⟩
  | 49 => ⟨S3x640x2x10x4x32, .bf16⟩
  | 50 => ⟨S3x640x2x10x4x32, .bf16⟩
  | 51 => ⟨S3x640x2x10x128, .bf16⟩
  | 52 => ⟨S3x640x2x128, .bf16⟩
  | 53 => ⟨S3x640x2x128, .f32⟩
  | 54 => ⟨S3x640x2x4x32, .f32⟩
  | 55 => ⟨S3x640x2x4x32, .f32⟩
  | 56 => ⟨S_, .f32⟩
  | 57 => ⟨S3x640x2x4, .f32⟩
  | 58 => ⟨S3x640x2x4x1, .f32⟩
  | 59 => ⟨S_, .f32⟩
  | 60 => ⟨S3x640x2x4x1, .f32⟩
  | 61 => ⟨S3x640x2x4x1, .i1⟩
  | 62 => ⟨S_, .f32⟩
  | 63 => ⟨S3x640x2x4x1, .f32⟩
  | 64 => ⟨S3x640x2x4x1, .f32⟩
  | 65 => ⟨S3x640x2x4x1, .f32⟩
  | 66 => ⟨S_, .f32⟩
  | 67 => ⟨S_, .f32⟩
  | 68 => ⟨S_, .f32⟩
  | 69 => ⟨S3x640x2x4x1, .f32⟩
  | 70 => ⟨S3x640x2x4x1, .f32⟩
  | 71 => ⟨S3x640x2x4x1, .f32⟩
  | 72 => ⟨S_, .f32⟩
  | 73 => ⟨S3x640x2x4x1, .f32⟩
  | 74 => ⟨S3x640x2x4x1, .f32⟩
  | 75 => ⟨S_, .f32⟩
  | 76 => ⟨S_, .f32⟩
  | 77 => ⟨S3x640x2x4x1, .f32⟩
  | 78 => ⟨S3x640x2x4x1, .f32⟩
  | 79 => ⟨S3x640x2x4x1, .f32⟩
  | 80 => ⟨S_, .f32⟩
  | 81 => ⟨S3x640x2x4x1, .f32⟩
  | 82 => ⟨S3x640x2x4x1, .f32⟩
  | 83 => ⟨S3x640x2x4x32, .f32⟩
  | 84 => ⟨S3x640x2x4x32, .f32⟩
  | 85 => ⟨S_, .f32⟩
  | 86 => ⟨S_, .f32⟩
  | 87 => ⟨S_, .f32⟩
  | 88 => ⟨S3x640x2x4x32, .f32⟩
  | 89 => ⟨S3x640x2x4x32, .f32⟩
  | 90 => ⟨S_, .f32⟩
  | 91 => ⟨S3x640x2x4x32, .f32⟩
  | 92 => ⟨S3x640x2x4x32, .f32⟩
  | 93 => ⟨S_, .f32⟩
  | 94 => ⟨S3x640x2x4x1, .f32⟩
  | 95 => ⟨S3x640x2x4x1, .f32⟩
  | 96 => ⟨S3x640x2x4x32, .bf16⟩
  | 97 => ⟨S3x640x2x4x1, .bf16⟩
  | 98 => ⟨S3x640x2x4x32, .bf16⟩
  | 99 => ⟨S3x640x2x4x32, .bf16⟩
  | 100 => ⟨S3x640x2x128, .bf16⟩
  | 101 => ⟨S3x640x256, .f32⟩
  | 102 => ⟨S3x640x2x128, .f32⟩
  | 103 => ⟨S3x640x2x128, .f32⟩
  | 104 => ⟨S_, .f32⟩
  | 105 => ⟨S3x640x2, .f32⟩
  | 106 => ⟨S3x640x2x1, .f32⟩
  | 107 => ⟨S_, .f32⟩
  | 108 => ⟨S3x640x2x1, .f32⟩
  | 109 => ⟨S3x640x2x1, .i1⟩
  | 110 => ⟨S_, .f32⟩
  | 111 => ⟨S3x640x2x1, .f32⟩
  | 112 => ⟨S3x640x2x1, .f32⟩
  | 113 => ⟨S3x640x2x1, .f32⟩
  | 114 => ⟨S_, .f32⟩
  | 115 => ⟨S_, .f32⟩
  | 116 => ⟨S_, .f32⟩
  | 117 => ⟨S3x640x2x1, .f32⟩
  | 118 => ⟨S3x640x2x1, .f32⟩
  | 119 => ⟨S3x640x2x1, .f32⟩
  | 120 => ⟨S_, .f32⟩
  | 121 => ⟨S3x640x2x1, .f32⟩
  | 122 => ⟨S3x640x2x1, .f32⟩
  | 123 => ⟨S_, .f32⟩
  | 124 => ⟨S_, .f32⟩
  | 125 => ⟨S3x640x2x1, .f32⟩
  | 126 => ⟨S3x640x2x1, .f32⟩
  | 127 => ⟨S3x640x2x1, .f32⟩
  | _ => ⟨S3x640x2560, .bf16⟩

abbrev hbmTy0_1 (i : Nat) : BufTy := match i % 128 with
  | 0 => ⟨S_, .f32⟩
  | 1 => ⟨S3x640x2x1, .f32⟩
  | 2 => ⟨S3x640x2x1, .f32⟩
  | 3 => ⟨S3x640x2x128, .f32⟩
  | 4 => ⟨S3x640x2x128, .f32⟩
  | 5 => ⟨S_, .f32⟩
  | 6 => ⟨S_, .f32⟩
  | 7 => ⟨S_, .f32⟩
  | 8 => ⟨S3x640x2x128, .f32⟩
  | 9 => ⟨S3x640x2x128, .f32⟩
  | 10 => ⟨S_, .f32⟩
  | 11 => ⟨S3x640x2x128, .f32⟩
  | 12 => ⟨S3x640x2x128, .f32⟩
  | 13 => ⟨S_, .f32⟩
  | 14 => ⟨S3x640x2x1, .f32⟩
  | 15 => ⟨S3x640x2x1, .f32⟩
  | 16 => ⟨S3x2x10x640x128, .bf16⟩
  | 17 => ⟨S3x2x640x128, .bf16⟩
  | 18 => ⟨S3x2x640x128, .f32⟩
  | 19 => ⟨S3x640x2, .f32⟩
  | 20 => ⟨S3x2x640, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S16, .f32⟩
  | 32 => ⟨S16, .f32⟩
  | 33 => ⟨S32, .f32⟩
  | 34 => ⟨S20, .f32⟩
  | 35 => ⟨S2x10, .f32⟩
  | 36 => ⟨S640x640, .i32⟩
  | 37 => ⟨S640x640, .i32⟩
  | 38 => ⟨S3x2x10x640x640, .f32⟩
  | 39 => ⟨S_, .f32⟩
  | 40 => ⟨S_, .f32⟩
  | 41 => ⟨S_, .f32⟩
  | 42 => ⟨S3x2x10x640x640, .f32⟩
  | 43 => ⟨S3x2x10x640x640, .f32⟩
  | 44 => ⟨S1x2x10x1x1, .f32⟩
  | 45 => ⟨S640x640, .i32⟩
  | 46 => ⟨S640x640, .f32⟩
  | 47 => ⟨S1x1x1x640x640, .f32⟩
  | 48 => ⟨S1x2x10x640x640, .f32⟩
  | 49 => ⟨S1x2x10x640x640, .f32⟩
  | 50 => ⟨S1x2x10x640x640, .f32⟩
  | 51 => ⟨S3x2x10x640x640, .f32⟩
  | 52 => ⟨S3x2x10x640x640, .f32⟩
  | 53 => ⟨S640x640, .i1⟩
  | 54 => ⟨S_, .f32⟩
  | 55 => ⟨S_, .f32⟩
  | 56 => ⟨S3x2x10x640x640, .i1⟩
  | 57 => ⟨S3x2x10x640x640, .f32⟩
  | 58 => ⟨S3x2x10x640x640, .f32⟩
  | 59 => ⟨S_, .f32⟩
  | 60 => ⟨S3x2x10x640, .f32⟩
  | 61 => ⟨S3x2x10x640x1, .f32⟩
  | 62 => ⟨S3x2x10x640x640, .f32⟩
  | 63 => ⟨S3x2x10x640x640, .f32⟩
  | 64 => ⟨S3x2x10x640x640, .f32⟩
  | 65 => ⟨S_, .f32⟩
  | 66 => ⟨S3x2x10x640, .f32⟩
  | 67 => ⟨S3x2x10x640x1, .f32⟩
  | 68 => ⟨S3x2x10x640x640, .f32⟩
  | 69 => ⟨S3x2x10x640x640, .f32⟩
  | 70 => ⟨S3x2x1x1x640, .f32⟩
  | 71 => ⟨S3x2x10x640x640, .f32⟩
  | 72 => ⟨S3x2x10x640x640, .f32⟩
  | 73 => ⟨S3x2x10x640x640, .f32⟩
  | 74 => ⟨S_, .f32⟩
  | 75 => ⟨S3x2x10x640, .f32⟩
  | 76 => ⟨S3x2x10x640x1, .f32⟩
  | 77 => ⟨S_, .f32⟩
  | 78 => ⟨S3x2x10x640x1, .f32⟩
  | 79 => ⟨S3x2x10x640x1, .i1⟩
  | 80 => ⟨S_, .f32⟩
  | 81 => ⟨S3x2x10x640x1, .f32⟩
  | 82 => ⟨S3x2x10x640x1, .f32⟩
  | 83 => ⟨S3x2x10x640x1, .f32⟩
  | 84 => ⟨S_, .f32⟩
  | 85 => ⟨S_, .f32⟩
  | 86 => ⟨S_, .f32⟩
  | 87 => ⟨S3x2x10x640x1, .f32⟩
  | 88 => ⟨S3x2x10x640x1, .f32⟩
  | 89 => ⟨S3x2x10x640x1, .f32⟩
  | 90 => ⟨S_, .f32⟩
  | 91 => ⟨S3x2x10x640x1, .f32⟩
  | 92 => ⟨S3x2x10x640x1, .f32⟩
  | 93 => ⟨S_, .f32⟩
  | 94 => ⟨S_, .f32⟩
  | 95 => ⟨S3x2x10x640x1, .f32⟩
  | 96 => ⟨S3x2x10x640x1, .f32⟩
  | 97 => ⟨S3x2x10x640x1, .f32⟩
  | 98 => ⟨S_, .f32⟩
  | 99 => ⟨S3x2x10x640x1, .f32⟩
  | 100 => ⟨S3x2x10x640x1, .f32⟩
  | 101 => ⟨S3x2x10x640x640, .f32⟩
  | 102 => ⟨S3x2x10x640x640, .f32⟩
  | 103 => ⟨S_, .f32⟩
  | 104 => ⟨S_, .f32⟩
  | 105 => ⟨S_, .f32⟩
  | 106 => ⟨S3x2x10x640x640, .f32⟩
  | 107 => ⟨S3x2x10x640x640, .f32⟩
  | 108 => ⟨S_, .f32⟩
  | 109 => ⟨S3x2x10x640x640, .f32⟩
  | 110 => ⟨S3x2x10x640x640, .f32⟩
  | 111 => ⟨S_, .f32⟩
  | 112 => ⟨S3x2x10x640x1, .f32⟩
  | 113 => ⟨S3x2x10x640x1, .f32⟩
  | 114 => ⟨S3x2x10x640x128, .f32⟩
  | 115 => ⟨S3x2x10x640x128, .f32⟩
  | 116 => ⟨S3x2x10x640x128, .f32⟩
  | 117 => ⟨S3x2x10x640x128, .bf16⟩
  | 118 => ⟨S3x640x2x10x128, .bf16⟩
  | 119 => ⟨S3x640x2560, .bf16⟩
  | _ => ⟨S3x640x2560, .bf16⟩

abbrev hbmTy (i : Nat) : BufTy := match i / 128 with
  | 0 => hbmTy0_0 i
  | 1 => hbmTy0_1 i
  | _ => ⟨S3x640x2560, .bf16⟩

abbrev bufTy : (tb : Table) → Fin (tcTables nBuf tb) → BufTy
  | .hbm, ⟨i, _⟩ => hbmTy i
  | _, _ => ⟨S3x640x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_call2_v0 : Ref sig .tc := ⟨.hbm, 76, rfl⟩
abbrev main_call2_v1 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_16 : Ref sig .tc := ⟨.hbm, 85, rfl⟩
abbrev main_cst_17 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v56 : Ref sig .tc := ⟨.hbm, 92, rfl⟩
abbrev main_cst_18 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_19 : Ref sig .tc := ⟨.hbm, 104, rfl⟩
abbrev main_v67 : Ref sig .tc := ⟨.hbm, 105, rfl⟩
abbrev main_v68 : Ref sig .tc := ⟨.hbm, 106, rfl⟩
abbrev main_cst_20 : Ref sig .tc := ⟨.hbm, 107, rfl⟩
abbrev main_v69 : Ref sig .tc := ⟨.hbm, 108, rfl⟩
abbrev main_v70 : Ref sig .tc := ⟨.hbm, 109, rfl⟩
abbrev main_cst_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_22 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_23 : Ref sig .tc := ⟨.hbm, 120, rfl⟩
abbrev main_v79 : Ref sig .tc := ⟨.hbm, 121, rfl⟩
abbrev main_v80 : Ref sig .tc := ⟨.hbm, 122, rfl⟩
abbrev main_cst_24 : Ref sig .tc := ⟨.hbm, 123, rfl⟩
abbrev main_call4_v0 : Ref sig .tc := ⟨.hbm, 124, rfl⟩
abbrev main_call4_v1 : Ref sig .tc := ⟨.hbm, 125, rfl⟩
abbrev main_v81 : Ref sig .tc := ⟨.hbm, 126, rfl⟩
abbrev main_v82 : Ref sig .tc := ⟨.hbm, 127, rfl⟩
abbrev main_cst_25 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_26 : Ref sig .tc := ⟨.hbm, 133, rfl⟩
abbrev main_cst_27 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_v87 : Ref sig .tc := ⟨.hbm, 140, rfl⟩
abbrev main_cst_28 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_29 : Ref sig .tc := ⟨.hbm, 150, rfl⟩
abbrev main_v96 : Ref sig .tc := ⟨.hbm, 151, rfl⟩
abbrev main_v97 : Ref sig .tc := ⟨.hbm, 152, rfl⟩
abbrev main_cst_30 : Ref sig .tc := ⟨.hbm, 153, rfl⟩
abbrev main_v98 : Ref sig .tc := ⟨.hbm, 154, rfl⟩
abbrev main_v99 : Ref sig .tc := ⟨.hbm, 155, rfl⟩
abbrev main_cst_31 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_32 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_33 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v124 : Ref sig .tc := ⟨.hbm, 186, rfl⟩
abbrev main_cst_34 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_35 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_36 : Ref sig .tc := ⟨.hbm, 202, rfl⟩
abbrev main_v138 : Ref sig .tc := ⟨.hbm, 203, rfl⟩
abbrev main_v139 : Ref sig .tc := ⟨.hbm, 204, rfl⟩
abbrev main_cst_37 : Ref sig .tc := ⟨.hbm, 205, rfl⟩
abbrev main_v140 : Ref sig .tc := ⟨.hbm, 206, rfl⟩
abbrev main_v141 : Ref sig .tc := ⟨.hbm, 207, rfl⟩
abbrev main_cst_38 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_39 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_40 : Ref sig .tc := ⟨.hbm, 218, rfl⟩
abbrev main_v150 : Ref sig .tc := ⟨.hbm, 219, rfl⟩
abbrev main_v151 : Ref sig .tc := ⟨.hbm, 220, rfl⟩
abbrev main_cst_41 : Ref sig .tc := ⟨.hbm, 221, rfl⟩
abbrev main_call7_v0 : Ref sig .tc := ⟨.hbm, 222, rfl⟩
abbrev main_call7_v1 : Ref sig .tc := ⟨.hbm, 223, rfl⟩
abbrev main_v152 : Ref sig .tc := ⟨.hbm, 224, rfl⟩
abbrev main_v153 : Ref sig .tc := ⟨.hbm, 225, rfl⟩
abbrev main_cst_42 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_43 : Ref sig .tc := ⟨.hbm, 231, rfl⟩
abbrev main_cst_44 : Ref sig .tc := ⟨.hbm, 232, rfl⟩
abbrev main_call8_v0 : Ref sig .tc := ⟨.hbm, 233, rfl⟩
abbrev main_call8_v1 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_v158 : Ref sig .tc := ⟨.hbm, 238, rfl⟩
abbrev main_cst_45 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩

abbrev nD : Nat := 1
abbrev τ : Topo := Topo.v7x

variable {F : FTy → Type} [FloatOps F]
-- ==== Proof.BitsRun.Setup.lean ====
/- What the run of `Kernel` is stated over: the frame claim from a run that states nothing of some outputs, the staging and scratch memrefs, the invariant spelt out. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x640x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x640 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x640x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x10x4x640 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x640x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x640 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x640x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x640 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S640x128 .bf16 := Memref.whole cc0_scratch0
abbrev scM0_1 : Memref sig .tc .vmem S128x640 .fp8e4m3 := Memref.whole cc0_scratch1
abbrev scM0_2 : Memref sig .tc .vmem S640x128 .f32 := Memref.whole cc0_scratch2
abbrev scM0_3 : Memref sig .tc .vmem S8x128 .bf16 := Memref.whole cc0_scratch3
abbrev scM0_4 : Memref sig .tc .vmem S2x128x640 .bf16 := Memref.whole cc0_scratch4
abbrev scM0_5 : Memref sig .tc .vmem S5x4x128 .i32 := Memref.whole cc0_scratch5
abbrev scM0_6 : Memref sig .tc .vmem S640x256 .f32 := Memref.whole cc0_scratch6
abbrev scM0_7 : Memref sig .tc .vmem S640x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.BitsRun.Body.lean ====
/- The run of `Kernel`'s kernel body. -/
module

public import proofs.«01_k».proof.Proof.BitsRun.Setup

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7996000 in
/-- The body's triple: on whole staging memrefs — the inputs' at their contents,
    the FORGOTTEN outputs' (5, 6, 7, 8, 9, 10, 11) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x640x1280 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x128x640 .bf16) (harg5 : arg5.IsWhole) (arg6 : Memref sig .tc .vmem S640x128 .bf16) (harg6 : arg6.IsWhole) (arg7 : Memref sig .tc .vmem S1x640x1280 .bf16) (harg7 : arg7.IsWhole) (arg8 : Memref sig .tc .vmem S1x10x640x128 .fp8e4m3) (harg8 : arg8.IsWhole) (arg9 : Memref sig .tc .vmem S1x10x4x640 .i8) (harg9 : arg9.IsWhole) (arg10 : Memref sig .tc .vmem S1x1x640x128 .fp8e4m3) (harg10 : arg10.IsWhole) (arg11 : Memref sig .tc .vmem S1x1x4x640 .i8) (harg11 : arg11.IsWhole) (arg12 : Memref sig .tc .vmem S1x1x640x128 .fp8e4m3) (harg12 : arg12.IsWhole) (arg13 : Memref sig .tc .vmem S1x2x640 .f32) (harg13 : arg13.IsWhole) (arg14 : Memref sig .tc .vmem S640x128 .bf16) (harg14 : arg14.IsWhole) (arg15 : Memref sig .tc .vmem S128x640 .fp8e4m3) (harg15 : arg15.IsWhole) (arg16 : Memref sig .tc .vmem S640x128 .f32) (harg16 : arg16.IsWhole) (arg17 : Memref sig .tc .vmem S8x128 .bf16) (harg17 : arg17.IsWhole) (arg18 : Memref sig .tc .vmem S2x128x640 .bf16) (harg18 : arg18.IsWhole) (arg19 : Memref sig .tc .vmem S5x4x128 .i32) (harg19 : arg19.IsWhole) (arg20 : Memref sig .tc .vmem S640x256 .f32) (harg20 : arg20.IsWhole) (arg21 : Memref sig .tc .vmem S640x256 .f32) (harg21 : arg21.IsWhole)
    (x0 : Vec F S1x640x1280 .bf16) (x1 : Vec F S1x640x128 .bf16) (x2 : Vec F S1x640x128 .bf16) (x3 : Vec F S1x128x640 .bf16) (x4 : Vec F S640x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_alibi_gqa_mx_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_alibi_gqa_mx_fp8_eq_skeleton]; unfold cc0_alibi_gqa_mx_fp8_skel
    simp only [k0_part179_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part180_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part181_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.BitsRun.Frame.lean ====
/- The pipeline's proof data of `Kernel`, its body obligation, its run and its frame. -/
module

public import proofs.«01_k».proof.Proof.BitsRun.Body
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9, 10, 11): nothing reads what the kernel leaves in them, so nothing
    of it is named (Lib/Pipeline/Dat.lean `Dat.toRForget`). -/
def forgets0 : Fin 12 → Bool := fun w => w.val == 5 || w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.IdealRun.Setup.lean ====
/- What the run of `KernelIdeal` is stated over: the frame claim from a run that states nothing of some outputs, the staging and scratch memrefs, the invariant spelt out. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- One staging buffer of output window 5, through which its contents are stated (`View.read_writes_of_cover`: the
    choice does not matter). -/
abbrev VO0_5 : View sig .tc .vmem S1x640x1280 .bf16 := (Memref.whole cc0_stg5_0 : Memref sig .tc .vmem S1x640x1280 .bf16).view
/-- Each window's current staging memref at point `t`, spelled as the pipeline passes it (`bodyAt0`), and its wholeness. -/
abbrev ms0_0 (t : Fin cfg0.N) : Memref sig .tc .vmem S1x640x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x640 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x1280 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x640x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x10x4x640 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x640x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x4x640 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x640x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x640 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S640x128 .bf16 := Memref.whole cc0_scratch0
abbrev scM0_1 : Memref sig .tc .vmem S128x640 .fp8e4m3 := Memref.whole cc0_scratch1
abbrev scM0_2 : Memref sig .tc .vmem S640x128 .f32 := Memref.whole cc0_scratch2
abbrev scM0_3 : Memref sig .tc .vmem S8x128 .bf16 := Memref.whole cc0_scratch3
abbrev scM0_4 : Memref sig .tc .vmem S2x128x640 .bf16 := Memref.whole cc0_scratch4
abbrev scM0_5 : Memref sig .tc .vmem S5x4x128 .i32 := Memref.whole cc0_scratch5
abbrev scM0_6 : Memref sig .tc .vmem S640x256 .f32 := Memref.whole cc0_scratch6
abbrev scM0_7 : Memref sig .tc .vmem S640x256 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.IdealRun.Body.lean ====
/- The run of `KernelIdeal`'s kernel body. -/
module

public import proofs.«01_k».proof.Proof.IdealRun.Setup

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7996000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). Here also the FORGOTTEN outputs' (6, 7, 8, 9, 10, 11) at anything, handed back at some contents nothing names. -/
noncomputable def kernelRun0_A (c : Dev nD) (i : grid0.Coords) (arg2 : Memref sig .tc .vmem S1x640x1280 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x128x640 .bf16) (harg5 : arg5.IsWhole) (arg6 : Memref sig .tc .vmem S640x128 .bf16) (harg6 : arg6.IsWhole) (arg7 : Memref sig .tc .vmem S1x640x1280 .bf16) (harg7 : arg7.IsWhole) (arg8 : Memref sig .tc .vmem S1x10x640x128 .fp8e4m3) (harg8 : arg8.IsWhole) (arg9 : Memref sig .tc .vmem S1x10x4x640 .i8) (harg9 : arg9.IsWhole) (arg10 : Memref sig .tc .vmem S1x1x640x128 .fp8e4m3) (harg10 : arg10.IsWhole) (arg11 : Memref sig .tc .vmem S1x1x4x640 .i8) (harg11 : arg11.IsWhole) (arg12 : Memref sig .tc .vmem S1x1x640x128 .fp8e4m3) (harg12 : arg12.IsWhole) (arg13 : Memref sig .tc .vmem S1x2x640 .f32) (harg13 : arg13.IsWhole) (arg14 : Memref sig .tc .vmem S640x128 .bf16) (harg14 : arg14.IsWhole) (arg15 : Memref sig .tc .vmem S128x640 .fp8e4m3) (harg15 : arg15.IsWhole) (arg16 : Memref sig .tc .vmem S640x128 .f32) (harg16 : arg16.IsWhole) (arg17 : Memref sig .tc .vmem S8x128 .bf16) (harg17 : arg17.IsWhole) (arg18 : Memref sig .tc .vmem S2x128x640 .bf16) (harg18 : arg18.IsWhole) (arg19 : Memref sig .tc .vmem S5x4x128 .i32) (harg19 : arg19.IsWhole) (arg20 : Memref sig .tc .vmem S640x256 .f32) (harg20 : arg20.IsWhole) (arg21 : Memref sig .tc .vmem S640x256 .f32) (harg21 : arg21.IsWhole)
    (x0 : Vec F S1x640x1280 .bf16) (x1 : Vec F S1x640x128 .bf16) (x2 : Vec F S1x640x128 .bf16) (x3 : Vec F S1x128x640 .bf16) (x4 : Vec F S640x128 .bf16) :
    Σ' (L5 : List (View.Piece (Elt F) S1x640x1280 .bf16)), Σ' (LT0 : List (View.Piece (Elt F) S640x128 .bf16)), Σ' (LT1 : List (View.Piece (Elt F) S128x640 .fp8e4m3)), Σ' (LT2 : List (View.Piece (Elt F) S640x128 .f32)), Σ' (LT4 : List (View.Piece (Elt F) S2x128x640 .bf16)), Σ' (LT6 : List (View.Piece (Elt F) S640x256 .f32)), { LT7 : List (View.Piece (Elt F) S640x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2) ∗ (∃ d, owns (c : Thread nD τ) arg17 fullShare d) ∗ (∃ f, arg18.view.loc (c : Thread nD τ) ↦[arg18.view.set]{fullShare} arg18.view.writes (Elt F) f LT4) ∗ (∃ d, owns (c : Thread nD τ) arg19 fullShare d) ∗ (∃ f, arg20.view.loc (c : Thread nD τ) ↦[arg20.view.set]{fullShare} arg20.view.writes (Elt F) f LT6) ∗ (∃ f, arg21.view.loc (c : Thread nD τ) ↦[arg21.view.set]{fullShare} arg21.view.writes (Elt F) f LT7)) -∗ K ⟨⟩))
          ⊢ wp frame (wpE (defs₀ (F := F)) Variants.none c none) E (cc0_alibi_gqa_mx_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_alibi_gqa_mx_fp8_eq_skeleton]; unfold cc0_alibi_gqa_mx_fp8_skel
    simp only [k0_part179_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part180_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part181_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]; · iexists _; iexact HS4
    isplitl [HS5]
    · iexists _, _; isplitr; swap; · iexact HS5
      ipureintro; rfl
    isplitl [HS6]; · iexists _; iexact HS6
    iexists _; iexact HS7

end Cert.KernelIdeal.Gen

end
-- ==== Proof.IdealRun.Frame.lean ====
/- The pipeline's proof data of `KernelIdeal`, its body obligation, its run and its frame. -/
module

public import proofs.«01_k».proof.Proof.IdealRun.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 5 tile its block (100 stores of `S1x64x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x640x1280 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x128x640 .bf16) (harg5 : arg5.IsWhole) (arg6 : Memref sig .tc .vmem S640x128 .bf16) (harg6 : arg6.IsWhole) (arg7 : Memref sig .tc .vmem S1x640x1280 .bf16) (harg7 : arg7.IsWhole) (arg8 : Memref sig .tc .vmem S1x10x640x128 .fp8e4m3) (harg8 : arg8.IsWhole) (arg9 : Memref sig .tc .vmem S1x10x4x640 .i8) (harg9 : arg9.IsWhole) (arg10 : Memref sig .tc .vmem S1x1x640x128 .fp8e4m3) (harg10 : arg10.IsWhole) (arg11 : Memref sig .tc .vmem S1x1x4x640 .i8) (harg11 : arg11.IsWhole) (arg12 : Memref sig .tc .vmem S1x1x640x128 .fp8e4m3) (harg12 : arg12.IsWhole) (arg13 : Memref sig .tc .vmem S1x2x640 .f32) (harg13 : arg13.IsWhole) (arg14 : Memref sig .tc .vmem S640x128 .bf16) (harg14 : arg14.IsWhole) (arg15 : Memref sig .tc .vmem S128x640 .fp8e4m3) (harg15 : arg15.IsWhole) (arg16 : Memref sig .tc .vmem S640x128 .f32) (harg16 : arg16.IsWhole) (arg17 : Memref sig .tc .vmem S8x128 .bf16) (harg17 : arg17.IsWhole) (arg18 : Memref sig .tc .vmem S2x128x640 .bf16) (harg18 : arg18.IsWhole) (arg19 : Memref sig .tc .vmem S5x4x128 .i32) (harg19 : arg19.IsWhole) (arg20 : Memref sig .tc .vmem S640x256 .f32) (harg20 : arg20.IsWhole) (arg21 : Memref sig .tc .vmem S640x256 .f32) (harg21 : arg21.IsWhole)
    (x0 : Vec F S1x640x1280 .bf16) (x1 : Vec F S1x640x128 .bf16) (x2 : Vec F S1x640x128 .bf16) (x3 : Vec F S1x128x640 .bf16) (x4 : Vec F S640x128 .bf16) (y : S1x640x1280.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4).1 S1x64x128.size (by sl_kernel_rfl) y

/-- What the run leaves in output 5's staging buffer: its pieces read back over junk. -/
def out0_A_5 (c : Dev nD) (i : grid0.Coords) (arg2 : Memref sig .tc .vmem S1x640x1280 .bf16) (harg2 : arg2.IsWhole) (arg3 : Memref sig .tc .vmem S1x640x128 .bf16) (harg3 : arg3.IsWhole) (arg4 : Memref sig .tc .vmem S1x640x128 .bf16) (harg4 : arg4.IsWhole) (arg5 : Memref sig .tc .vmem S1x128x640 .bf16) (harg5 : arg5.IsWhole) (arg6 : Memref sig .tc .vmem S640x128 .bf16) (harg6 : arg6.IsWhole) (arg7 : Memref sig .tc .vmem S1x640x1280 .bf16) (harg7 : arg7.IsWhole) (arg8 : Memref sig .tc .vmem S1x10x640x128 .fp8e4m3) (harg8 : arg8.IsWhole) (arg9 : Memref sig .tc .vmem S1x10x4x640 .i8) (harg9 : arg9.IsWhole) (arg10 : Memref sig .tc .vmem S1x1x640x128 .fp8e4m3) (harg10 : arg10.IsWhole) (arg11 : Memref sig .tc .vmem S1x1x4x640 .i8) (harg11 : arg11.IsWhole) (arg12 : Memref sig .tc .vmem S1x1x640x128 .fp8e4m3) (harg12 : arg12.IsWhole) (arg13 : Memref sig .tc .vmem S1x2x640 .f32) (harg13 : arg13.IsWhole) (arg14 : Memref sig .tc .vmem S640x128 .bf16) (harg14 : arg14.IsWhole) (arg15 : Memref sig .tc .vmem S128x640 .fp8e4m3) (harg15 : arg15.IsWhole) (arg16 : Memref sig .tc .vmem S640x128 .f32) (harg16 : arg16.IsWhole) (arg17 : Memref sig .tc .vmem S8x128 .bf16) (harg17 : arg17.IsWhole) (arg18 : Memref sig .tc .vmem S2x128x640 .bf16) (harg18 : arg18.IsWhole) (arg19 : Memref sig .tc .vmem S5x4x128 .i32) (harg19 : arg19.IsWhole) (arg20 : Memref sig .tc .vmem S640x256 .f32) (harg20 : arg20.IsWhole) (arg21 : Memref sig .tc .vmem S640x256 .f32) (harg21 : arg21.IsWhole)
    (x0 : Vec F S1x640x1280 .bf16) (x1 : Vec F S1x640x128 .bf16) (x2 : Vec F S1x640x128 .bf16) (x3 : Vec F S1x128x640 .bf16) (x4 : Vec F S640x128 .bf16) : Vec F S1x640x1280 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4).1)

/-! ## What the outputs hold after each point -/

/-- What the outputs' staging buffers hold after the body at point `t`: the run's contents at
    the point's memrefs and input blocks. -/
def outsAt0 (c : Dev nD) (t : Fin cfg0.N) : Vec F S1x640x1280 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t)

/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11
theorem forgets0_5 : forgets0 (5 : Fin 12) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t)).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, ⟨%e5, H5⟩, H6, H7, H8, H9, H10, H11, ⟨%fT0, HS0⟩, ⟨%fT1, HS1⟩, ⟨%fT2, HS2⟩, HS3, ⟨%fT4, HS4⟩, HS5, ⟨%fT6, HS6⟩, ⟨%fT7, HS7⟩⟩
  isplitl [HS0 HS1 HS2 HS3 HS4 HS5 HS6 HS7 Hg]
  · isplitl [HS0 HS1 HS2 HS3 HS4 HS5 HS6 HS7]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexact HS3
      isplitl [HS4]
      · iexists _; unfold owns; iexists _; isplitr
        swap; · iexact HS4
        ipureintro; rfl
      isplitl [HS5]
      · iexact HS5
      isplitl [HS6]
      · iexists _; unfold owns; iexists _; isplitr
        swap; · iexact HS6
        ipureintro; rfl
      iexists _; unfold owns; iexists _; isplitr
      swap; · iexact HS7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _)
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.IdealRun.Value.lean ====
/- What the run of `KernelIdeal` leaves in the first result, block by block. -/
module

public import proofs.«01_k».proof.Proof.IdealRun.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t)) := by
  simp only [flushed5, outsAt0]

/-- The index map sends distinct grid points to distinct block indices (decided over the 6 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3x640x2560.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

set_option maxHeartbeats 4000000 in
/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 12) (hw : forgets0 w = false) :
    r.2.mem ((cfg0.spec w).arr.view.loc (c : Thread nD τ)) = (dats m 0 c).arrAt w cfg0.N :=
  ((dats m 0 c).toRForget_arrAt_iff hw _ _).mp ((h c).1 w)

set_option maxHeartbeats 4000000 in
/-- After the frame run, output window 5's array is `(dats m 0 c).arrAt 5 N`. -/
theorem post5 (r : PUnit × MemSt nD τ sig (Elt F)) (h : Pipeline.RDat.FramePost (cfgs 0) (fun c => (dats m 0 c).toRForget forgets0) (V m) r) (c : Dev nD) :
    r.2.mem ((c : Thread nD τ).loc main_v111_0) = (dats m 0 c).arrAt 5 cfg0.N :=
  finalR_out0 m r h c 5 forgets0_5

set_option maxHeartbeats 4000000 in
/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

set_option maxHeartbeats 4000000 in
/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

set_option maxHeartbeats 4000000 in
/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

set_option maxHeartbeats 4000000 in
/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v111_0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      kept_main_arg0 m r h c,
      kept_main_arg1 m r h c,
      kept_main_arg2 m r h c⟩)
    (run_main m ρ)

end Cert.KernelIdeal.Value

end
-- ==== Proof.Ker.Parts.lean ====
/- The kernel body's own operations, regrouped: one quantiser, one score block, one softmax block and one output block,
each at any number of rows and columns. -/
module

public import proofs.«01_k».proof.KernelIdeal
public import Idealize.ShloMosaic.PureOps.Ideal

@[expose] public section

noncomputable section

namespace Cert.KernelIdeal.Ker

open Cert.KernelIdeal Idealize.ShloMosaic

/-- A matrix shape. -/
abbrev D2 (a b : ℕ) : Shape := ⟨2, ![a, b]⟩

/-- A shape of rank three. -/
abbrev D3 (a b c : ℕ) : Shape := ⟨3, ![a, b, c]⟩

/-- A vector shape. -/
abbrev D1 (a : ℕ) : Shape := ⟨1, ![a]⟩

/-- The biased exponent the quantiser picks for a largest magnitude `a`. -/
def e8m0 {s : Shape} (a : FVec Ideal s .f32) : IVec s 32 :=
  have p : FVec Ideal s .f32 := mulf a (broadcast s (Scalar.ofBits .f32 0x3B124925#32))
  have b : IVec s 32 := select (cmpf .olt p (broadcast s (Scalar.ofBits .f32 0x00800000#32))) (broadcast s 0#32)
    (fptosi 32 (addf (floor (mulf (log p) (broadcast s (Named.named κ "log2e" 0x3FB8AA3B#32))))
      (broadcast s (Scalar.ofBits .f32 0x42FE0000#32))))
  select (cmpi .eq b (broadcast s 0#32)) (broadcast s 127#32) (addi b (broadcast s 1#32))

/-- The power of two with biased exponent `e`. -/
def pow2 {s : Shape} (e : IVec s 32) : FVec Ideal s .f32 := bitcastToFloat .f32 (shli e (broadcast s 23#32))

/-- Its inverse. -/
def inv2 {s : Shape} (e : IVec s 32) : FVec Ideal s .f32 := pow2 (subi (broadcast s 254#32) e)

/-- The clip to the fp8 range. -/
def clip448 {s : Shape} (x : FVec Ideal s .f32) : FVec Ideal s .f32 :=
  minimumf (broadcast s (Scalar.ofBits .f32 0x43E00000#32)) (maximumf (broadcast s (Scalar.ofBits .f32 0xC3E00000#32)) x)

/-- The exponents of the 32-row blocks of a matrix with 128 rows. -/
def mxExp (L : ℕ) (hr : (D3 4 32 L).Reduces [1] (D2 4 L)) (xb : FVec Ideal (D3 4 32 L) .bf16) : IVec (D2 4 L) 32 :=
  e8m0 (extf .f32 (multiReduction .maximumf [1] (D2 4 L) (absf xb) 0xFF80#16 hr (.inr rfl) rfl) (by decide))

/-- A matrix with 128 rows quantised in 32-row blocks and widened again. -/
def mxWide (L : ℕ) (hr : (D3 4 32 L).Reduces [1] (D2 4 L)) (h1 : (D2 128 L).ShapeCasts (D3 4 32 L))
    (h2 : (D2 4 L).ShapeCasts (D3 4 1 L)) (h3 : (D3 4 1 L).Broadcasts (D3 4 32 L)) (h4 : (D3 4 32 L).ShapeCasts (D2 128 L))
    (xt : FVec Ideal (D2 128 L) .bf16) : FVec Ideal (D2 128 L) .bf16 :=
  have xb : FVec Ideal (D3 4 32 L) .bf16 := shapeCast (D3 4 32 L) xt h1
  have e : IVec (D2 4 L) 32 := mxExp L hr xb
  have y : FVec Ideal (D3 4 32 L) .bf16 := minimumf
    (broadcast (D3 4 32 L) (Scalar.truncf .bf16 (by decide) (Scalar.ofBits .f32 0x43E00000#32)))
    (maximumf (broadcast (D3 4 32 L) (Scalar.truncf .bf16 (by decide) (Scalar.ofBits .f32 0xC3E00000#32)))
      (mulf xb (broadcastTo (D3 4 32 L) (shapeCast (D3 4 1 L) (truncf .bf16 (inv2 e) (by decide)) h2) h3)))
  have codes : FVec Ideal (D2 128 L) .bf16 :=
    extf .bf16 (truncf .fp8e4m3 (shapeCast (D2 128 L) y h4) (by decide)) (by decide)
  shapeCast (D2 128 L) (mulf (shapeCast (D3 4 32 L) codes h1)
    (broadcastTo (D3 4 32 L) (shapeCast (D3 4 1 L) (truncf .bf16 (pow2 e) (by decide)) h2) h3)) h4

/-- The scores of `n` keys against `W` query columns. -/
def scores (n W : ℕ) (h1 : (D3 1 128 W).ShapeCasts (D2 128 W)) (h2 : (D2 128 W).Slices ![0, 0] (D2 64 W))
    (h3 : (D2 128 W).Slices ![64, 0] (D2 64 W)) (h4 : Shape.Concatenates [D2 128 W, D2 64 W, D2 64 W] (D2 256 W) 0)
    (lhs : FVec Ideal (D2 n 256) .bf16) (bias qw : Vec Ideal (D3 1 128 W) .bf16) : FVec Ideal (D2 n W) .f32 :=
  have b : FVec Ideal (D2 128 W) .bf16 := shapeCast (D2 128 W) bias h1
  matmul (DotDims.plain n 256 W) none lhs
    (concatenate (D2 256 W) 0 [⟨D2 128 W, shapeCast (D2 128 W) qw h1⟩,
      ⟨D2 64 W, mulf (extractStridedSlice (D2 64 W) ![0, 0] b h2) (broadcast (D2 64 W) (Named.named κ "mask" 0xFE96#16))⟩,
      ⟨D2 64 W, extractStridedSlice (D2 64 W) ![64, 0] b h3⟩] h4)
    (constant (D2 n W) .f32 0x00000000#32)

/-- The largest score of each query column. -/
def colMax (n W : ℕ) (h1 : (D2 n W).Reduces [0] (D1 W)) (h2 : (D1 W).ShapeCasts (D2 1 W))
    (s : FVec Ideal (D2 n W) .f32) : FVec Ideal (D2 1 W) .f32 :=
  shapeCast (D2 1 W) (multiReduction .maximumf [0] (D1 W) s 0xFF800000#32 h1 (.inl rfl) rfl) h2

/-- The exponentials of the scores below the largest one. -/
def weights (n W : ℕ) (h1 : (D2 1 W).Broadcasts (D2 n W)) (m : FVec Ideal (D2 1 W) .f32) (s : Vec Ideal (D2 n W) .f32) :
    FVec Ideal (D2 n W) .f32 :=
  exp2 (mulf (subf s (broadcastTo (D2 n W) m h1)) (broadcast (D2 n W) (Named.named κ "scale" 0x3E0293EE#32)))

/-- One over the sum of the weights, each over its value row's scale. -/
def invTotal (n W : ℕ) (h1 : (D2 n W).Reduces [0] (D1 W)) (h2 : (D1 W).ShapeCasts (D2 1 W))
    (w nev : FVec Ideal (D2 n W) .f32) : FVec Ideal (D2 1 W) .f32 :=
  divf (broadcast (D2 1 W) (Scalar.ofBits .f32 0x3F800000#32))
    (shapeCast (D2 1 W) (multiReduction .add [0] (D1 W) (mulf w nev) 0x00000000#32 h1 (.inl rfl) rfl) h2)

/-- The output columns: values times quantised weights, times the weights' scale. -/
def outs (n W : ℕ) (h1 : (D2 1 W).Broadcasts (D2 n W)) (h2 : (D2 1 W).Broadcasts (D2 128 W)) (amax : FVec Ideal (D2 1 W) .f32)
    (w : Vec Ideal (D2 n W) .f32) (vt : FVec Ideal (D2 128 n) .fp8e4m3) : FVec Ideal (D2 128 W) .bf16 :=
  have e : IVec (D2 1 W) 32 := e8m0 amax
  have o : FVec Ideal (D2 128 W) .f32 := matmul (DotDims.plain 128 n W) none vt
    (truncf .fp8e4m3 (mulf w (broadcastTo (D2 n W) (clip448 (mulf amax (inv2 e))) h1)) (by decide))
    (constant (D2 128 W) .f32 0x00000000#32)
  truncf .bf16 (mulf o (broadcastTo (D2 128 W) (pow2 e) h2)) (by decide)

end Cert.KernelIdeal.Ker
-- ==== Proof.Ker.Scalar.lean ====
/- The quantiser's scale at one element: the power of two the kernel picks for a largest magnitude, read over the reals. -/
module

public import proofs.«01_k».proof.Proof.Ker.Parts
public import Idealize.ShloMosaic.Lib.Pointwise

@[expose] public section

noncomputable section

namespace Cert.KernelIdeal.Ker

open Cert.KernelIdeal Idealize.ShloMosaic

/-! ## The literals -/

/-- The f32 nearest to one over 448. -/
def inv448 : ℝ := 9586981 / 4294967296

theorem ofBits_inv448 : Ideal.ofBits .f32 0x3B124925#32 = ((inv448 : ℝ) : EReal) := by
  simp [Ideal.ofBits, Ideal.ieee, inv448, -EReal.coe_mul]; norm_num

theorem ofBits_tiny : Ideal.ofBits .f32 0x00800000#32 = (((2 : ℝ) ^ (-126 : ℤ) : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_neg_inf_f32 : Ideal.ofBits .f32 0xFF800000#32 = ⊥ := by
  simp [Ideal.ofBits, Ideal.ieee]

theorem ofBits_neg_inf_bf16 : Ideal.ofBits .bf16 0xFF80#16 = ⊥ := by
  simp [Ideal.ofBits, Ideal.ieee]

/-- The largest finite bf16. -/
def bf16Max : ℝ := 255 * 2 ^ 120

theorem ofBits_bf16Max : Ideal.ofBits .f32 0x7F7F0000#32 = ((bf16Max : ℝ) : EReal) := by
  simp [Ideal.ofBits, Ideal.ieee, bf16Max, -EReal.coe_mul]; norm_num

theorem inv448_pos : 0 < inv448 := by norm_num [inv448]

/-- A normal f32 of positive sign and zero fraction. -/
theorem ofBits_normal (b : BitVec 32) (n : ℕ) (e1 : (b.extractLsb' 23 8).toNat = n) (e2 : (b.extractLsb' 0 23).toNat = 0)
    (e3 : (b.extractLsb' 31 1 == 1#1) = false) (h1 : n ≠ 0) (h2 : n ≠ 255) :
    Ideal.ofBits .f32 b = (((2 : ℝ) ^ ((n : ℤ) - 127) : ℝ) : EReal) := by
  show Ideal.ieee 8 23 b = _
  unfold Ideal.ieee
  dsimp only
  rw [e1, e2, show (8 + 23 : ℕ) = 31 from rfl, e3, if_neg (by simpa using h2), if_neg h1]
  congr 1
  simp only [Bool.false_eq_true, if_false, one_mul]
  push_cast
  norm_num only [add_zero]
  rw [show (8388608 : ℝ) = (2 : ℝ) ^ (23 : ℤ) by norm_num, ← zpow_add₀ (by norm_num)]
  congr 1; ring

/-- An f32 whose exponent field is `n` and whose fraction is zero. -/
theorem ofBits_shl (n : ℕ) (h1 : 1 ≤ n) (h2 : n ≤ 254) :
    Ideal.ofBits .f32 (BitVec.ofNat 32 n <<< 23) = (((2 : ℝ) ^ ((n : ℤ) - 127) : ℝ) : EReal) := by
  have hb : (BitVec.ofNat 32 n <<< 23).toNat = n * 8388608 := by
    rw [BitVec.toNat_shiftLeft, BitVec.toNat_ofNat, Nat.shiftLeft_eq]; omega
  refine ofBits_normal _ n ?_ ?_ ?_ (by omega) (by omega)
  · rw [BitVec.extractLsb'_toNat, hb, Nat.shiftRight_eq_div_pow]; omega
  · rw [BitVec.extractLsb'_toNat, hb, Nat.shiftRight_eq_div_pow]; omega
  · rw [beq_eq_false_iff_ne]
    intro h
    have h3 := congrArg BitVec.toNat h
    rw [BitVec.extractLsb'_toNat, hb, Nat.shiftRight_eq_div_pow] at h3
    simp at h3; omega

theorem named_log2e : (Named.named κ "log2e" 0x3FB8AA3B#32 : Ideal .f32) = (((Real.log 2)⁻¹ : ℝ) : EReal) :=
  IdealRules.named_const.ideal_named_scalar _ _ _ _ rfl

theorem named_scale : (Named.named κ "scale" 0x3E0293EE#32 : Ideal .f32) = (((Real.sqrt 128)⁻¹ * (Real.log 2)⁻¹ : ℝ) : EReal) :=
  IdealRules.named_const.ideal_named_scalar _ _ _ _ rfl

theorem named_mask : (Named.named κ "mask" 0xFE96#16 : Ideal .bf16) = ⊥ :=
  IdealRules.named_const.ideal_named_scalar _ _ _ _ rfl

/-! ## The exponent -/

/-- The exponent picked for a largest magnitude `r` below two to the 128: a power of two above `r` over 448. -/
theorem e8m0_val {s : Shape} (a : FVec Ideal s .f32) (j : s.Idx) (r : ℝ) (h : a j = (r : EReal)) (h0 : 0 ≤ r)
    (h1 : r < 2 ^ 128) :
    ∃ k : ℤ, -125 ≤ k ∧ k ≤ 120 ∧ e8m0 a j = BitVec.ofNat 32 (k + 127).toNat ∧ r * inv448 < (2 : ℝ) ^ k := by
  pointwise [e8m0]
  rw [h, ofBits_inv448, ofBits_tiny, ofBits_127, named_log2e, ← EReal.coe_mul]
  have hp0 : 0 ≤ r * inv448 := mul_nonneg h0 inv448_pos.le
  have hp1 : r * inv448 < 2 ^ (120 : ℤ) := by
    have : (2 : ℝ) ^ 128 * inv448 < 2 ^ (120 : ℤ) := by norm_num [inv448]
    exact lt_trans (mul_lt_mul_of_pos_right h1 inv448_pos) this
  generalize r * inv448 = p at hp0 hp1 ⊢
  by_cases hp : p < (2 : ℝ) ^ (-126 : ℤ)
  · refine ⟨0, by norm_num, by norm_num, ?_, hp.trans (by norm_num)⟩
    rw [if_pos (by exact_mod_cast hp)]
    rfl
  · rw [if_neg (by exact_mod_cast hp)]
    have hpp : 0 < p := lt_of_lt_of_le (by positivity) (not_lt.mp hp)
    have hl : (0 : ℝ) < Real.log 2 := Real.log_pos (by norm_num)
    set f : ℤ := ⌊Real.log p * (Real.log 2)⁻¹⌋ with hf
    have f1 : -126 ≤ f := by
      rw [hf, Int.le_floor, ← div_eq_mul_inv, le_div_iff₀ hl]
      have := Real.log_le_log (by positivity) (not_lt.mp hp)
      rwa [Real.log_zpow] at this
    have f2 : f < 120 := by
      rw [hf, Int.floor_lt, ← div_eq_mul_inv, div_lt_iff₀ hl]
      have := Real.log_lt_log hpp hp1
      rwa [Real.log_zpow] at this
    have f3 : p < (2 : ℝ) ^ (f + 1) := by
      have : Real.log p * (Real.log 2)⁻¹ < ((f + 1 : ℤ) : ℝ) := by push_cast; exact Int.lt_floor_add_one _
      rw [← div_eq_mul_inv, div_lt_iff₀ hl, ← Real.log_zpow, Real.log_lt_log_iff hpp (by positivity)] at this
      exact this
    refine ⟨f + 1, by omega, by omega, ?_, f3⟩
    have e1 : FloatOps.fptosi (F := Ideal) (φ := .f32) 32 (Ideal.liftRound Int.floor (Ideal.log (p : EReal) * (((Real.log 2)⁻¹ : ℝ) : EReal)) + ((127 : ℝ) : EReal))
        = BitVec.ofNat 32 (f + 127).toNat := by
      rw [Ideal.log_coe, if_neg (not_le.mpr hpp), ← EReal.coe_mul, Ideal.liftRound_coe, ← hf, ← EReal.coe_add]
      show Ideal.fptosi 32 _ = _
      unfold Ideal.fptosi
      rw [show ((f : ℝ) + 127) = ((f + 127 : ℤ) : ℝ) by push_cast; ring, Ideal.toIntClamped_coe,
        Int.floor_intCast, Int.ceil_intCast, ite_self]
      rw [min_eq_right (by norm_num; omega), max_eq_right (by norm_num; omega)]
      conv_lhs => rw [← Int.toNat_of_nonneg (show 0 ≤ f + 127 by omega)]
      rfl
    rw [e1]
    have h4 : (f + 1 + 127).toNat = (f + 127).toNat + 1 := by omega
    rw [h4]
    have h5 : 1 ≤ (f + 127).toNat ∧ (f + 127).toNat < 256 := by omega
    generalize (f + 127).toNat = n at h5
    have h6 : BitVec.ofNat 32 n ≠ 0#32 := by
      intro h; have := congrArg BitVec.toNat h; simp at this; omega
    have h7 : IntOp.cmpi CmpIPredicate.eq (BitVec.ofNat 32 n) 0#32 = 0#1 := by
      show BitVec.ofBool (BitVec.ofNat 32 n == 0#32) = 0#1
      rw [beq_eq_false_iff_ne.mpr h6]; rfl
    rw [h7]
    show BitVec.ofNat 32 n + 1#32 = _
    apply BitVec.eq_of_toNat_eq; simp

theorem shli_23 (x : BitVec 32) : IntOp.shli ArithUnit.vector x 23#32 = x <<< 23 := rfl

/-- The scale picked for a largest magnitude `r`: a positive power of two, its inverse beside it, that brings `r` below 448. -/
theorem scale_val {s : Shape} (a : FVec Ideal s .f32) (j : s.Idx) (r : ℝ) (h : a j = (r : EReal)) (h0 : 0 ≤ r)
    (h1 : r < 2 ^ 128) :
    ∃ k : ℤ, -125 ≤ k ∧ k ≤ 120 ∧ e8m0 a j = BitVec.ofNat 32 (k + 127).toNat ∧ pow2 (e8m0 a) j = (((2 : ℝ) ^ k : ℝ) : EReal)
      ∧ inv2 (e8m0 a) j = (((2 : ℝ) ^ (-k) : ℝ) : EReal) ∧ r * (2 : ℝ) ^ (-k) ≤ 448 := by
  obtain ⟨k, k1, k2, hk, hr⟩ := e8m0_val a j r h h0 h1
  refine ⟨k, k1, k2, hk, ?_, ?_, ?_⟩
  · pointwise [pow2]
    rw [hk, shli_23, ofBits_shl _ (by omega) (by omega), Int.toNat_of_nonneg (by omega)]
    congr 2; ring
  · pointwise [inv2, pow2]
    have : IntOp.subi (254#32) (BitVec.ofNat 32 (k + 127).toNat) = BitVec.ofNat 32 (127 - k).toNat := by
      show (254#32) - BitVec.ofNat 32 (k + 127).toNat = _
      apply BitVec.eq_of_toNat_eq; simp [BitVec.toNat_sub]; omega
    rw [hk, this, shli_23, ofBits_shl _ (by omega) (by omega), Int.toNat_of_nonneg (by omega)]
    congr 2; ring
  · rw [zpow_neg, ← div_eq_mul_inv, div_le_iff₀ (by positivity)]
    have : 448 * inv448 > 1 := by norm_num [inv448]
    nlinarith [inv448_pos, mul_nonneg h0 inv448_pos.le]

/-- The clip does nothing to what is within its range. -/
theorem clip_coe (x : ℝ) (h : |x| ≤ 448) :
    min (Ideal.ofBits .f32 0x43E00000#32) (max (Ideal.ofBits .f32 0xC3E00000#32) (x : EReal)) = (x : EReal) := by
  rw [ofBits_448, ofBits_neg448]
  obtain ⟨h1, h2⟩ := abs_le.mp h
  rw [max_eq_right (by exact_mod_cast h1), min_eq_right (by exact_mod_cast h2)]

/-- An element no larger than `r`, divided by the scale, stays within the clip. -/
theorem scaled_le {x r p : ℝ} (hx : |x| ≤ r) (hp : 0 < p) (h : r * p ≤ 448) : |x * p| ≤ 448 := by
  rw [abs_mul, abs_of_pos hp]; exact (mul_le_mul_of_nonneg_right hx hp.le).trans h

/-! ## Folds -/

/-- The largest of finitely many values below `⊤`, one of them above `⊥`, is a real number, taken at one of them. -/
theorem fold_max_real {n : ℕ} (f : Fin n → EReal) (ht : ∀ i, f i ≠ ⊤) (hb : ∃ i, f i ≠ ⊥) :
    ∃ r : ℝ, Finset.univ.fold max ⊥ f = (r : EReal) ∧ (∀ i, f i ≤ (r : EReal)) ∧ ∃ i, f i = (r : EReal) := by
  obtain ⟨i0, hi0⟩ := hb
  have hs : Finset.univ.fold max ⊥ f = Finset.univ.sup f := rfl
  obtain ⟨i, -, hi⟩ := Finset.exists_mem_eq_sup Finset.univ ⟨i0, Finset.mem_univ _⟩ f
  have hle : ∀ k, f k ≤ f i := fun k => hi ▸ Finset.le_sup (Finset.mem_univ k)
  have h1 : f i ≠ ⊥ := fun h => hi0 (le_bot_iff.mp (h ▸ hle i0))
  lift f i to ℝ using ⟨ht i, h1⟩ with r hr
  exact ⟨r, by rw [hs, hi], fun k => hle k, i, hr.symm⟩

end Cert.KernelIdeal.Ker
-- ==== Proof.Ker.Unit.lean ====
/- One unit of the kernel body (the keys up to one query tile, against one or two groups of 128 query columns), read at an
element: its output columns are the attention of the queries over those keys. -/
module

public import proofs.«01_k».proof.Proof.Ker.Scalar
public import proofs.«01_k».proof.Proof.IdealRun.Setup
public import Idealize.ShloMosaic.Lib.Pointwise.IndexVar

@[expose] public section

set_option maxRecDepth 16384

noncomputable section

namespace Cert.KernelIdeal.Ker

open Cert.KernelIdeal Idealize.ShloMosaic

/-! ## The parts at an index -/

theorem reshape_bias {W : ℕ} (h1 : (D3 1 128 W).ShapeCasts (D2 128 W)) (a : Fin 128) (j : Fin W) :
    Shape.reshapeEquiv h1 (ix2 a j) = ix3 0 a j := by
  refine Shape.reshapeEquiv_eq_of_rowMajor h1 ?_
  rw [rowMajor_val3 _ (128 * W) W rfl rfl, rowMajor_val2 _ W rfl]
  show (0 : ℕ) * (128 * W) + (a : ℕ) * W + (j : ℕ) = (a : ℕ) * W + (j : ℕ)
  ring

theorem reshape_col {W : ℕ} (h2 : (D1 W).ShapeCasts (D2 1 W)) (j : Fin W) : Shape.reshapeEquiv h2 (ix2 0 j) 0 = j := by
  have : Shape.reshapeEquiv h2 (ix2 0 j) = ix1 j := by
    refine Shape.reshapeEquiv_eq_of_rowMajor h2 ?_
    rw [rowMajor_val1, rowMajor_val2 _ W rfl]
    show (j : ℕ) = 0 * W + (j : ℕ)
    ring
  rw [this]; rfl

theorem sum256 (f : Fin 256 → EReal) : ∑ x, f x = ∑ k : Fin 128, f ⟨k, by omega⟩
    + (∑ k : Fin 64, f ⟨128 + k, by omega⟩ + ∑ k : Fin 64, f ⟨192 + k, by omega⟩) := by
  rw [Fin.sum_univ_add (a := 128) (b := 128) f, Fin.sum_univ_add (a := 64) (b := 64) fun i => f (Fin.natAdd 128 i)]
  refine congrArg₂ (· + ·) rfl (congrArg₂ (· + ·) rfl (Finset.sum_congr rfl fun k _ => congrArg f (Fin.ext ?_)))
  simp; omega

/-- A score: the queries' part, the masked part and the bias part. -/
theorem scores_apply (n W : ℕ) (h1 : (D3 1 128 W).ShapeCasts (D2 128 W)) (h2 : (D2 128 W).Slices ![0, 0] (D2 64 W))
    (h3 : (D2 128 W).Slices ![64, 0] (D2 64 W)) (h4 : Shape.Concatenates [D2 128 W, D2 64 W, D2 64 W] (D2 256 W) 0)
    (lhs : FVec Ideal (D2 n 256) .bf16) (bias qw : Vec Ideal (D3 1 128 W) .bf16) (s : Fin n) (j : Fin W) :
    scores n W h1 h2 h3 h4 lhs bias qw (ix2 s j)
      = ∑ k : Fin 128, lhs (ix2 s ⟨k, by omega⟩) * qw (ix3 0 k j)
        + (∑ k : Fin 64, lhs (ix2 s ⟨128 + k, by omega⟩) * (bias (ix3 0 ⟨k, by omega⟩ j) * ⊥)
          + ∑ k : Fin 64, lhs (ix2 s ⟨192 + k, by omega⟩) * bias (ix3 0 ⟨64 + k, by omega⟩ j)) := by
  pointwise [scores]
  simp only [reshape_bias, named_mask]
  rw [sum256]
  refine congrArg₂ (· + ·) (Finset.sum_congr rfl fun k _ => ?_)
    (congrArg₂ (· + ·) (Finset.sum_congr rfl fun k _ => ?_) (Finset.sum_congr rfl fun k _ => ?_))
  · rw [dif_pos k.isLt]
  · rw [dif_neg (by simp), dif_pos (by simp)]; simp
  · rw [dif_neg (by simp; omega), dif_neg (by simp; omega)]
    have e : (64 + (192 + (k : ℕ) - 128 - 64)) = 64 + k := by omega
    simp only [e]

theorem colMax_apply (n W : ℕ) (h1 : (D2 n W).Reduces [0] (D1 W)) (h2 : (D1 W).ShapeCasts (D2 1 W))
    (s : FVec Ideal (D2 n W) .f32) (j : Fin W) :
    colMax n W h1 h2 s (ix2 0 j) = Finset.univ.fold max ⊥ fun i => s (ix2 i j) := by
  pointwise [colMax]
  rw [reshape_col, ofBits_neg_inf_f32]

theorem weights_apply (n W : ℕ) (hW : W ≠ 1) (h1 : (D2 1 W).Broadcasts (D2 n W)) (m : FVec Ideal (D2 1 W) .f32)
    (s : Vec Ideal (D2 n W) .f32) (i : Fin n) (j : Fin W) : weights n W h1 m s (ix2 i j)
      = Ideal.exp2 ((s (ix2 i j) - m (ix2 0 j)) * (((Real.sqrt 128)⁻¹ * (Real.log 2)⁻¹ : ℝ) : EReal)) := by
  pointwise [weights, hW, dif_neg]
  rw [named_scale]; rfl

theorem invTotal_apply (n W : ℕ) (h1 : (D2 n W).Reduces [0] (D1 W)) (h2 : (D1 W).ShapeCasts (D2 1 W))
    (w nev : FVec Ideal (D2 n W) .f32) (j : Fin W) :
    invTotal n W h1 h2 w nev (ix2 0 j) = Ideal.div 1 (∑ i, w (ix2 i j) * nev (ix2 i j)) := by
  pointwise [invTotal]
  rw [reshape_col]

theorem matmul_plain (n W : ℕ) (lhs : FVec Ideal (D2 128 n) .fp8e4m3) (rhs : FVec Ideal (D2 n W) .fp8e4m3)
    (acc : FVec Ideal (D2 128 W) .f32) (d : Fin 128) (j : Fin W) :
    Ideal.matmul (DotDims.plain 128 n W) lhs rhs acc (ix2 d j)
      = acc (ix2 d j) + ∑ i : Fin n, lhs (ix2 d i) * rhs (ix2 i j) := by
  refine Ideal.matmul_apply₁_of (DotDims.plain 128 n W) (a := 1) rfl rfl lhs rhs acc (ix2 d j) (fun i => ix2 d i)
    (fun i => ix2 i j) (fun k => ?_) (fun k => ?_)
  · funext a; match a with
    | ⟨0, _⟩ => rfl
    | ⟨1, _⟩ => rfl
  · funext a; match a with
    | ⟨0, _⟩ => rfl
    | ⟨1, _⟩ => rfl

theorem outs_apply (n W : ℕ) (hW : W ≠ 1) (h1 : (D2 1 W).Broadcasts (D2 n W)) (h2 : (D2 1 W).Broadcasts (D2 128 W))
    (amax : FVec Ideal (D2 1 W) .f32) (w : Vec Ideal (D2 n W) .f32) (vt : FVec Ideal (D2 128 n) .fp8e4m3) (d : Fin 128)
    (j : Fin W) : outs n W h1 h2 amax w vt (ix2 d j)
      = (∑ i, vt (ix2 d i) * (w (ix2 i j) * min (Ideal.ofBits .f32 0x43E00000#32) (max (Ideal.ofBits .f32 0xC3E00000#32)
          (amax (ix2 0 j) * inv2 (e8m0 amax) (ix2 0 j))))) * pow2 (e8m0 amax) (ix2 0 j) := by
  pointwise [outs, clip448, hW, dif_neg, matmul_plain]

/-! ## One unit -/

/-- A scratch buffer's top left block, read back right after it is stored. -/
def back (n W : ℕ) (mem : Memref sig .tc .vmem S640x256 .f32)
    (hin : ∀ a : Fin 2, (![0, 0] : Fin 2 → ℕ) a + (D2 n W).size a ≤ S640x256.size a)
    (L : List (View.Piece (Elt Ideal) S640x256 .f32)) (h : (D2 n W).ShapeCasts (D2 n W)) (s : FVec Ideal (D2 n W) .f32) :
    Vec Ideal (D2 n W) .f32 :=
  mem.view.readCov (⟨Rect.unit ![0, 0] (D2 n W).size hin, shapeCast (D2 n W) s h⟩ :: L)
    (Rect.unit (s := S640x256) ![0, 0] (D2 n W).size hin).toLoadRect

/-- It reads what was stored. -/
theorem back_eq (n W : ℕ) (mem : Memref sig .tc .vmem S640x256 .f32)
    (hin : ∀ a : Fin 2, (![0, 0] : Fin 2 → ℕ) a + (D2 n W).size a ≤ S640x256.size a)
    (L : List (View.Piece (Elt Ideal) S640x256 .f32)) (h : (D2 n W).ShapeCasts (D2 n W)) (s : FVec Ideal (D2 n W) .f32) :
    back n W mem hin L h s = s := by
  unfold back
  rw [View.readCov_cons_toLoadRect]
  exact shapeCast_self _ _

/-- The output columns of a unit as the body computes them: scores and weights pass through a scratch buffer each. -/
def unitRaw (n W : ℕ) (arg20 arg21 : Memref sig .tc .vmem S640x256 .f32)
    (hin : ∀ a : Fin 2, (![0, 0] : Fin 2 → ℕ) a + (D2 n W).size a ≤ S640x256.size a)
    (L6 L7 : List (View.Piece (Elt Ideal) S640x256 .f32)) (hs : (D2 n W).ShapeCasts (D2 n W))
    (h1 : (D3 1 128 W).ShapeCasts (D2 128 W)) (h2 : (D2 128 W).Slices ![0, 0] (D2 64 W))
    (h3 : (D2 128 W).Slices ![64, 0] (D2 64 W)) (h4 : Shape.Concatenates [D2 128 W, D2 64 W, D2 64 W] (D2 256 W) 0)
    (h5 : (D2 n W).Reduces [0] (D1 W)) (h6 : (D1 W).ShapeCasts (D2 1 W)) (h7 : (D2 1 W).Broadcasts (D2 n W))
    (h8 : (D2 1 W).Broadcasts (D2 128 W)) (lhs : FVec Ideal (D2 n 256) .bf16) (bias qw : Vec Ideal (D3 1 128 W) .bf16)
    (nev : FVec Ideal (D2 n W) .f32) (vt : FVec Ideal (D2 128 n) .fp8e4m3) : FVec Ideal (D2 128 W) .bf16 :=
  have s := scores n W h1 h2 h3 h4 lhs bias qw
  have s2 := back n W arg20 hin L6 hs s
  have w := weights n W h7 (colMax n W h5 h6 s) s2
  outs n W h7 h8 (invTotal n W h5 h6 w nev) (back n W arg21 hin L7 hs w) vt

/-- The unscaled softmax weight of key `i` for a query `x` with slope `σ`. -/
def ew (K : Fin 640 → Fin 128 → ℝ) (x : Fin 128 → ℝ) (σ : ℝ) (i : Fin 640) : ℝ :=
  Real.exp ((∑ k, K i k * x k) * (Real.sqrt 128)⁻¹ + σ * i)

/-- Causal attention of the query `x` at position `q` with slope `σ`, at value lane `d`. -/
def att (K V : Fin 640 → Fin 128 → ℝ) (x : Fin 128 → ℝ) (σ : ℝ) (q : ℕ) (d : Fin 128) : ℝ :=
  (∑ i : Fin 640, if (i : ℕ) ≤ q then ew K x σ i * V i d else 0) / ∑ i : Fin 640, if (i : ℕ) ≤ q then ew K x σ i else 0

/-- A sum over the keys up to `q` does not see the keys from `n` on. -/
theorem sum_upto (n : ℕ) (hn : n ≤ 640) (q : ℕ) (hq : q < n) (f : Fin 640 → ℝ) :
    ∑ i : Fin n, (if (i : ℕ) ≤ q then f ⟨i, by omega⟩ else 0) = ∑ i : Fin 640, if (i : ℕ) ≤ q then f i else 0 := by
  have h1 : ∀ m : ℕ, m ≤ 640 → ∀ g : ℕ → ℝ, (∀ i : Fin 640, g i = if (i : ℕ) ≤ q then f i else 0) → q < m →
      (∑ i ∈ Finset.range m, g i) = ∑ i ∈ Finset.range (q + 1), g i := by
    intro m hm g hg hqm
    symm
    refine Finset.sum_subset (fun x hx => by simp at hx ⊢; omega) fun x hx hx2 => ?_
    have := hg ⟨x, by simp at hx; omega⟩
    simp only at this
    rw [this, if_neg (by simp at hx2; omega)]
  let g : ℕ → ℝ := fun i => if h : i < 640 then (if i ≤ q then f ⟨i, h⟩ else 0) else 0
  have hg : ∀ i : Fin 640, g i = if (i : ℕ) ≤ q then f i else 0 := fun i => by simp [g]
  calc _ = ∑ i : Fin n, g i := Finset.sum_congr rfl fun i _ => (hg ⟨i, by omega⟩).symm
    _ = ∑ i ∈ Finset.range n, g i := Fin.sum_univ_eq_sum_range g n
    _ = ∑ i ∈ Finset.range 640, g i := by rw [h1 n hn g hg hq, h1 640 le_rfl g hg (by omega)]
    _ = ∑ i : Fin 640, g i := (Fin.sum_univ_eq_sum_range g 640).symm
    _ = _ := Finset.sum_congr rfl fun i _ => hg i

/-- The bias column of a key in one lane of the bias operand: its position in its tile three times, its tile's distance
three times, its value's exponent three times. -/
def biasLane (t : ℕ) (i : ℕ) (ev : ℝ) (k : Fin 64) : ℝ :=
  if (k : ℕ) < 3 then ((i % 64 : ℕ) : ℝ) else if (k : ℕ) < 6 then (((i / 64 : ℕ) : ℝ) - t) * 64 else if (k : ℕ) < 9 then ev else 0

/-- The bias row of a query in one lane: each of the three factors once, and zeros. -/
def slopeLane (σ : ℝ) (k : Fin 64) : ℝ :=
  if (k : ℕ) = 0 ∨ (k : ℕ) = 3 then σ * Real.sqrt 128 else if (k : ℕ) = 6 then Real.sqrt 128 * Real.log 2 else 0

theorem lanes_sum (t i : ℕ) (ev σ : ℝ) :
    ∑ k : Fin 64, biasLane t i ev k * slopeLane σ k = Real.sqrt 128 * (σ * ((i : ℝ) - t * 64) + ev * Real.log 2) := by
  have hz : ∀ k ∈ (Finset.univ : Finset (Fin 64)), k ∉ ({0, 3, 6} : Finset (Fin 64)) → biasLane t i ev k * slopeLane σ k = 0 := by
    intro k _ hk
    have h0 : (k : ℕ) ≠ 0 := fun h => hk (by simp [Fin.ext_iff, h])
    have h3 : (k : ℕ) ≠ 3 := fun h => hk (by simp [Fin.ext_iff, h])
    have h6 : (k : ℕ) ≠ 6 := fun h => hk (by simp [Fin.ext_iff, h])
    simp [slopeLane, h0, h3, h6]
  rw [← Finset.sum_subset (Finset.subset_univ ({0, 3, 6} : Finset (Fin 64))) hz, Finset.sum_insert (by decide),
    Finset.sum_insert (by decide), Finset.sum_singleton]
  have hi : (i : ℝ) = ((i / 64 : ℕ) : ℝ) * 64 + ((i % 64 : ℕ) : ℝ) := by exact_mod_cast (Nat.div_add_mod' i 64).symm
  simp [biasLane, slopeLane]
  rw [hi]
  push_cast
  ring

/-- The masked part: minus infinity for the keys of the queries' own tile after the query, nothing for the others. -/
theorem masked_sum (n t jq : ℕ) (hn : n = 64 * (t + 1)) (i : ℕ) (hi : i < n) (hj : jq < 64) (a b : Fin 64 → EReal)
    (ha : ∀ k : Fin 64, a k = if t * 64 + k = i then 1 else 0) (hb : ∀ k : Fin 64, b k = if jq < (k : ℕ) then 1 else 0) :
    ∑ k : Fin 64, a k * (b k * ⊥) = if i ≤ t * 64 + jq then 0 else ⊥ := by
  by_cases h : t * 64 ≤ i
  · rw [Finset.sum_eq_single (⟨i - t * 64, by omega⟩ : Fin 64)]
    · rw [ha, hb, if_pos (by simp; omega)]
      by_cases h2 : i ≤ t * 64 + jq
      · rw [if_neg (by simp; omega), if_pos h2]; simp
      · rw [if_pos (by simp; omega), if_neg h2]; simp
    · intro k _ hk
      rw [ha, if_neg (fun e => hk (Fin.ext (by simp; omega))), zero_mul]
    · exact fun h => absurd (Finset.mem_univ _) h
  · rw [if_pos (by omega), Finset.sum_eq_zero]
    intro k _
    rw [ha, if_neg (by omega), zero_mul]

theorem coe_sum' {ι : Type*} (s : Finset ι) (f : ι → ℝ) : ∑ i ∈ s, (f i : EReal) = ((∑ i ∈ s, f i : ℝ) : EReal) :=
  (map_sum (⟨⟨Real.toEReal, rfl⟩, EReal.coe_add⟩ : ℝ →+ EReal) f s).symm

/-- What a unit needs of its operands: the keys and the bias lanes of its left operand, the query columns, the bias columns,
the values and their scales. Column `j` of the unit is query `t * 64 + j % 64`, with key product vector `x j` and slope `σ j`. -/
structure UnitIn (n W t : ℕ) (K V : Fin 640 → Fin 128 → ℝ) (ev : Fin 640 → ℤ) (x : Fin W → Fin 128 → ℝ) (σ : Fin W → ℝ)
    (lhs : FVec Ideal (D2 n 256) .bf16) (bias qw : Vec Ideal (D3 1 128 W) .bf16) (nev : FVec Ideal (D2 n W) .f32)
    (vt : FVec Ideal (D2 128 n) .fp8e4m3) : Prop where
  hn : n = 64 * (t + 1)
  hle : n ≤ 640
  hW : W ≠ 1
  hK : ∀ (i : Fin n) (k : Fin 128), lhs (ix2 i ⟨k, by omega⟩) = ((K ⟨i, by omega⟩ k : ℝ) : EReal)
  hM : ∀ (i : Fin n) (k : Fin 64), lhs (ix2 i ⟨128 + k, by omega⟩) = if t * 64 + k = i then 1 else 0
  hB : ∀ (i : Fin n) (k : Fin 64), lhs (ix2 i ⟨192 + k, by omega⟩) = ((biasLane t i (ev ⟨i, by omega⟩) k : ℝ) : EReal)
  hbM : ∀ (k : Fin 64) (j : Fin W), bias (ix3 0 ⟨k, by omega⟩ j) = if (j : ℕ) % 64 < k then 1 else 0
  hbB : ∀ (k : Fin 64) (j : Fin W), bias (ix3 0 ⟨64 + k, by omega⟩ j) = ((slopeLane (σ j) k : ℝ) : EReal)
  hQ : ∀ (k : Fin 128) (j : Fin W), qw (ix3 0 k j) = ((x j k : ℝ) : EReal)
  hev : ∀ i, -125 ≤ ev i ∧ ev i ≤ 120
  hnev : ∀ (i : Fin n) (j : Fin W), nev (ix2 i j) = (((2 : ℝ) ^ (-ev ⟨i, by omega⟩) : ℝ) : EReal)
  hV : ∀ (d : Fin 128) (i : Fin n), vt (ix2 d i) = ((V ⟨i, by omega⟩ d * (2 : ℝ) ^ (-ev ⟨i, by omega⟩) : ℝ) : EReal)

/-- A unit's output column is the attention of its query. -/
theorem unit_val {n W t : ℕ} {K V : Fin 640 → Fin 128 → ℝ} {ev : Fin 640 → ℤ} {x : Fin W → Fin 128 → ℝ} {σ : Fin W → ℝ}
    {lhs : FVec Ideal (D2 n 256) .bf16} {bias qw : Vec Ideal (D3 1 128 W) .bf16} {nev : FVec Ideal (D2 n W) .f32}
    {vt : FVec Ideal (D2 128 n) .fp8e4m3} (H : UnitIn n W t K V ev x σ lhs bias qw nev vt)
    (arg20 arg21 : Memref sig .tc .vmem S640x256 .f32)
    (hin : ∀ a : Fin 2, (![0, 0] : Fin 2 → ℕ) a + (D2 n W).size a ≤ S640x256.size a)
    (L6 L7 : List (View.Piece (Elt Ideal) S640x256 .f32)) (hs : (D2 n W).ShapeCasts (D2 n W))
    (h1 : (D3 1 128 W).ShapeCasts (D2 128 W)) (h2 : (D2 128 W).Slices ![0, 0] (D2 64 W))
    (h3 : (D2 128 W).Slices ![64, 0] (D2 64 W)) (h4 : Shape.Concatenates [D2 128 W, D2 64 W, D2 64 W] (D2 256 W) 0)
    (h5 : (D2 n W).Reduces [0] (D1 W)) (h6 : (D1 W).ShapeCasts (D2 1 W)) (h7 : (D2 1 W).Broadcasts (D2 n W))
    (h8 : (D2 1 W).Broadcasts (D2 128 W)) (d : Fin 128) (j : Fin W) :
    unitRaw n W arg20 arg21 hin L6 L7 hs h1 h2 h3 h4 h5 h6 h7 h8 lhs bias qw nev vt (ix2 d j)
      = ((att K V (x j) (σ j) (t * 64 + j % 64) d : ℝ) : EReal) := by
  obtain ⟨hn, hle, hW, hK, hM, hB, hbM, hbB, hQ, hev, hnev, hV⟩ := H
  have hq : t * 64 + (j : ℕ) % 64 < n := by omega
  unfold unitRaw
  simp only [back_eq]
  generalize hsd : scores n W h1 h2 h3 h4 lhs bias qw = s
  -- the scores
  have hsr : ∀ i : Fin n, s (ix2 i j) = if (i : ℕ) ≤ t * 64 + j % 64 then
      (((∑ k, K ⟨i, by omega⟩ k * x j k) + Real.sqrt 128 * (σ j * ((i : ℝ) - t * 64) + ev ⟨i, by omega⟩ * Real.log 2) : ℝ) : EReal)
      else ⊥ := by
    intro i
    rw [← hsd, scores_apply]
    simp only [hK, hQ, hB, hbB, ← EReal.coe_mul, coe_sum', lanes_sum]
    rw [masked_sum n t (j % 64) hn i i.isLt (by omega) (fun k => lhs (ix2 i ⟨128 + k, by omega⟩))
      (fun k => bias (ix3 0 ⟨k, by omega⟩ j)) (hM i) (fun k => hbM k j)]
    split
    · rw [zero_add, ← EReal.coe_add]
    · simp
  -- the largest
  obtain ⟨M, hM1, hM2, i0, hM3⟩ := fold_max_real (fun i => s (ix2 i j))
    (fun i => by
      simp only [hsr]; split
      · exact EReal.coe_ne_top _
      · exact bot_ne_top) ⟨⟨0, by omega⟩, by simp only [hsr]; rw [if_pos (Nat.zero_le _)]; exact EReal.coe_ne_bot _⟩
  have hm : colMax n W h5 h6 s (ix2 0 j) = (M : EReal) := by rw [colMax_apply, hM1]
  generalize colMax n W h5 h6 s = m at hm
  have hi0 : (i0 : ℕ) ≤ t * 64 + j % 64 := by
    by_contra h; simp only [hsr, if_neg h] at hM3; exact absurd hM3 (by simp)
  -- the weights
  have s128 : 0 < Real.sqrt 128 := by positivity
  have l2 : 0 < Real.log 2 := Real.log_pos (by norm_num)
  set C : ℝ := Real.exp (-(σ j * (t * 64)) - M * (Real.sqrt 128)⁻¹) with hC
  have C0 : 0 < C := Real.exp_pos _
  have hpow : ∀ k : ℤ, Real.exp (k * Real.log 2) = (2 : ℝ) ^ k := fun k => by
    rw [mul_comm, Real.exp_mul, Real.exp_log (by norm_num), Real.rpow_intCast]
  have hw : ∀ i : Fin n, weights n W h7 m s (ix2 i j)
      = (((if (i : ℕ) ≤ t * 64 + j % 64 then ew K (x j) (σ j) ⟨i, by omega⟩ else 0) * (2 : ℝ) ^ ev ⟨i, by omega⟩ * C : ℝ) : EReal) := by
    intro i
    rw [weights_apply n W hW, hsr, hm]
    split
    · rw [← EReal.coe_sub, ← EReal.coe_mul, Ideal.exp2_coe]
      congr 1
      show (2 : ℝ) ^ (_ : ℝ) = _
      rw [Real.rpow_def_of_pos (by norm_num), ew, ← hpow, hC, ← Real.exp_add, ← Real.exp_add]
      congr 1
      field_simp
      ring
    · rw [EReal.bot_sub, EReal.bot_mul_coe_of_pos (by positivity), Ideal.exp2_bot]; simp
  have hw0 : weights n W h7 m s (ix2 i0 j) = 1 := by
    rw [weights_apply n W hW, hM3, hm, ← EReal.coe_sub, sub_self, ← EReal.coe_mul, zero_mul, Ideal.exp2_coe]
    exact congrArg Real.toEReal (Real.rpow_zero 2)
  generalize weights n W h7 m s = w at hw hw0
  -- the sum of the weights
  set D : ℝ := ∑ i : Fin 640, if (i : ℕ) ≤ t * 64 + j % 64 then ew K (x j) (σ j) i else 0 with hD
  have ht : ∑ i, w (ix2 i j) * nev (ix2 i j) = ((D * C : ℝ) : EReal) := by
    simp only [hw, hnev, ← EReal.coe_mul, coe_sum']
    congr 1
    rw [hD, ← sum_upto n hle _ hq, Finset.sum_mul]
    refine Finset.sum_congr rfl fun i _ => ?_
    rw [zpow_neg]; field_simp
  have hge : (2 : ℝ) ^ (-120 : ℤ) ≤ D * C := by
    have e : w (ix2 i0 j) * nev (ix2 i0 j) = (((2 : ℝ) ^ (-ev ⟨i0, by omega⟩) : ℝ) : EReal) := by rw [hw0, one_mul, hnev]
    rw [hw, hnev, ← EReal.coe_mul, EReal.coe_eq_coe_iff] at e
    have : D * C = ∑ i : Fin n, ((if (i : ℕ) ≤ t * 64 + j % 64 then ew K (x j) (σ j) ⟨i, by omega⟩ else 0)
        * (2 : ℝ) ^ ev ⟨i, by omega⟩ * C) * (2 : ℝ) ^ (-ev ⟨i, by omega⟩) := by
      rw [hD, ← sum_upto n hle _ hq, Finset.sum_mul]
      refine Finset.sum_congr rfl fun i _ => ?_
      rw [zpow_neg]; field_simp
    rw [this]
    refine le_trans ?_ (Finset.single_le_sum (fun i _ => ?_) (Finset.mem_univ i0))
    · rw [e]; exact zpow_le_zpow_right₀ (by norm_num) (by have := (hev ⟨i0, by omega⟩).2; omega)
    · have : 0 ≤ if (i : ℕ) ≤ t * 64 + j % 64 then ew K (x j) (σ j) ⟨i, by omega⟩ else 0 := by
        split
        · exact (Real.exp_pos _).le
        · exact le_rfl
      positivity
  have hDC : 0 < D * C := lt_of_lt_of_le (by positivity) hge
  have hD0 : D ≠ 0 := fun h => by rw [h, zero_mul] at hDC; exact lt_irrefl _ hDC
  -- the weights' scale
  have ha : invTotal n W h5 h6 w nev (ix2 0 j) = ((1 / (D * C) : ℝ) : EReal) := by
    rw [invTotal_apply, ht, Ideal.div_coe hDC.ne', one_mul]
  have hlt : 1 / (D * C) < 2 ^ 128 := by
    rw [div_lt_iff₀ hDC]
    have : (2 : ℝ) ^ 128 * (2 : ℝ) ^ (-120 : ℤ) ≤ 2 ^ 128 * (D * C) := by gcongr
    refine lt_of_lt_of_le ?_ this
    norm_num
  generalize invTotal n W h5 h6 w nev = amax at ha
  obtain ⟨k, -, -, -, hp, hi, hr⟩ := scale_val amax (ix2 0 j) _ ha (by positivity) hlt
  rw [outs_apply n W hW, hp, hi, ha, ← EReal.coe_mul,
    clip_coe _ (by rw [abs_of_nonneg (by positivity)]; exact hr)]
  simp only [hw, hV, ← EReal.coe_mul, coe_sum']
  congr 1
  rw [att, ← hD, ← sum_upto n hle _ hq, Finset.sum_mul, Finset.sum_div]
  refine Finset.sum_congr rfl fun i _ => ?_
  have p1 : (2 : ℝ) ^ (-ev ⟨i, by omega⟩) = ((2 : ℝ) ^ (ev ⟨i, by omega⟩))⁻¹ := zpow_neg _ _
  have p2 : (2 : ℝ) ^ (-k) = ((2 : ℝ) ^ k)⁻¹ := zpow_neg _ _
  have p3 : (2 : ℝ) ^ (ev ⟨i, by omega⟩) ≠ 0 := by positivity
  have p4 : (2 : ℝ) ^ k ≠ 0 := by positivity
  rw [p1, p2]
  split
  · field_simp
  · simp

end Cert.KernelIdeal.Ker
-- ==== Proof.Ker.Quant.lean ====
/- The kernel's quantisers, read at an element: queries and keys come back as they were, values are their codes times
their scale. -/
module

public import proofs.«01_k».proof.Proof.Ker.Unit

@[expose] public section

set_option maxRecDepth 16384

noncomputable section

namespace Cert.KernelIdeal.Ker

open Cert.KernelIdeal Idealize.ShloMosaic

theorem reshape_split {L : ℕ} (h : (D3 4 32 L).ShapeCasts (D2 128 L)) (d : Fin 128) (j : Fin L) :
    Shape.reshapeEquiv h (ix2 d j) = ix3 ⟨d / 32, by omega⟩ ⟨d % 32, by omega⟩ j := by
  refine Shape.reshapeEquiv_eq_of_rowMajor h ?_
  rw [rowMajor_val3 _ (32 * L) L rfl rfl, rowMajor_val2 _ L rfl]
  show (d / 32 : ℕ) * (32 * L) + (d % 32 : ℕ) * L + (j : ℕ) = (d : ℕ) * L + (j : ℕ)
  have := Nat.div_add_mod' d 32
  nlinarith

theorem reshape_merge {L : ℕ} (h : (D2 128 L).ShapeCasts (D3 4 32 L)) (b : Fin 4) (r : Fin 32) (j : Fin L) :
    Shape.reshapeEquiv h (ix3 b r j) = ix2 ⟨b * 32 + r, by omega⟩ j := by
  refine Shape.reshapeEquiv_eq_of_rowMajor h ?_
  rw [rowMajor_val3 _ (32 * L) L rfl rfl, rowMajor_val2 _ L rfl]
  show (b * 32 + r : ℕ) * L + (j : ℕ) = (b : ℕ) * (32 * L) + (r : ℕ) * L + (j : ℕ)
  ring

theorem reshape_unit {L : ℕ} (h : (D2 4 L).ShapeCasts (D3 4 1 L)) (b : Fin 4) (j : Fin L) :
    Shape.reshapeEquiv h (ix3 b 0 j) = ix2 b j := by
  refine Shape.reshapeEquiv_eq_of_rowMajor h ?_
  rw [rowMajor_val3 _ (1 * L) L rfl rfl, rowMajor_val2 _ L rfl]
  show (b : ℕ) * L + (j : ℕ) = (b : ℕ) * (1 * L) + 0 * L + (j : ℕ)
  ring

theorem absf_coe (φ : FTy) (x : ℝ) : FloatOps.absf (F := Ideal) (φ := φ) (x : EReal) = ((|x| : ℝ) : EReal) := by
  show max (x : EReal) (-(x : EReal)) = _
  rw [← EReal.coe_neg, abs]
  exact (EReal.coe_strictMono.monotone.map_max (a := x) (b := -x)).symm

theorem bf16Max_lt : bf16Max < 2 ^ 128 := by norm_num [bf16Max]

/-- The largest magnitude of finitely many reals. -/
theorem fold_abs {n : ℕ} (hn : 0 < n) (f : Fin n → EReal) (R : Fin n → ℝ) (h : ∀ i, f i = ((|R i| : ℝ) : EReal))
    (hR : ∀ i, |R i| ≤ bf16Max) :
    ∃ r : ℝ, Finset.univ.fold max ⊥ f = (r : EReal) ∧ 0 ≤ r ∧ r < 2 ^ 128 ∧ ∀ i, |R i| ≤ r := by
  obtain ⟨r, h1, h2, i, h3⟩ := fold_max_real f (fun i => by rw [h]; exact EReal.coe_ne_top _)
    ⟨⟨0, hn⟩, by rw [h]; exact EReal.coe_ne_bot _⟩
  rw [h, EReal.coe_eq_coe_iff] at h3
  refine ⟨r, h1, h3 ▸ abs_nonneg _, h3 ▸ lt_of_le_of_lt (hR i) bf16Max_lt, fun i => ?_⟩
  have := h2 i
  rw [h] at this
  exact_mod_cast this

/-- A column quantised in blocks of 32 and widened again is the column. -/
theorem mx_val (L : ℕ) (hL : L ≠ 1) (hr : (D3 4 32 L).Reduces [1] (D2 4 L)) (h1 : (D2 128 L).ShapeCasts (D3 4 32 L))
    (h2 : (D2 4 L).ShapeCasts (D3 4 1 L)) (h3 : (D3 4 1 L).Broadcasts (D3 4 32 L)) (h4 : (D3 4 32 L).ShapeCasts (D2 128 L))
    (xt : FVec Ideal (D2 128 L) .bf16) (j : Fin L) (R : Fin 128 → ℝ) (hx : ∀ d, xt (ix2 d j) = ((R d : ℝ) : EReal))
    (hR : ∀ d, |R d| ≤ bf16Max) (d : Fin 128) : mxWide L hr h1 h2 h3 h4 xt (ix2 d j) = ((R d : ℝ) : EReal) := by
  pointwise [mxWide, hL, dif_neg]
  simp only [reshape_split]
  pointwise
  simp only [reshape_unit]
  obtain ⟨r, hf, r0, r1, hle⟩ := fold_abs (n := 32) (by decide)
    (fun i => FloatOps.absf (F := Ideal) (φ := .bf16) (xt (ix2 ⟨(d : ℕ) / 32 * 32 + i, by omega⟩ j)))
    (fun i => R ⟨(d : ℕ) / 32 * 32 + i, by omega⟩) (fun i => by rw [hx, absf_coe]) (fun i => hR _)
  have ha : extf .f32 (multiReduction .maximumf [1] (D2 4 L) (absf (shapeCast (D3 4 32 L) xt h1)) 0xFF80#16 hr (.inr rfl) rfl)
      (by decide) (ix2 ⟨(d : ℕ) / 32, by omega⟩ j) = (r : EReal) := by
    pointwise
    simp only [reshape_merge, ofBits_neg_inf_bf16]
    exact hf
  obtain ⟨k, -, -, -, hp, hi, h448⟩ := scale_val _ _ r ha r0 r1
  have e : (⟨(d : ℕ) / 32 * 32 + (⟨(d : ℕ) % 32, by omega⟩ : Fin 32), by simp; omega⟩ : Fin 128) = d :=
    Fin.ext (Nat.div_add_mod' d 32)
  have hd : |R d| ≤ r := by have := hle ⟨(d : ℕ) % 32, by omega⟩; rwa [e] at this
  have hp' : pow2 (mxExp L hr (shapeCast (D3 4 32 L) xt h1)) (ix2 ⟨(d : ℕ) / 32, by omega⟩ j) = _ := hp
  have hi' : inv2 (mxExp L hr (shapeCast (D3 4 32 L) xt h1)) (ix2 ⟨(d : ℕ) / 32, by omega⟩ j) = _ := hi
  rw [hx, hp', hi', ← EReal.coe_mul, clip_coe _ (scaled_le hd (by positivity) h448), ← EReal.coe_mul]
  congr 1
  rw [zpow_neg]; field_simp

/-! ## The values -/

/-- The biased exponent of every value row, on every lane. -/
def vExp (v : FVec Ideal (D2 640 128) .f32) (h1 : (D2 640 128).Reduces [1] (D1 640)) (h2 : (D1 640).ShapeCasts (D2 640 1))
    (h3 : (D2 640 1).ShapeCasts (D2 640 1)) (h4 : (D2 640 1).Broadcasts (D2 640 128)) : IVec (D2 640 128) 32 :=
  broadcastTo (D2 640 128) (shapeCast (D2 640 1) (e8m0 (shapeCast (D2 640 1)
    (multiReduction .maximumf [1] (D1 640) (absf v) 0xFF800000#32 h1 (.inl rfl) rfl) h2)) h3) h4

/-- A value row's exponent, its inverse scale and its codes. -/
theorem vExp_val (v : FVec Ideal (D2 640 128) .f32) (h1 : (D2 640 128).Reduces [1] (D1 640))
    (h2 : (D1 640).ShapeCasts (D2 640 1)) (h3 : (D2 640 1).ShapeCasts (D2 640 1)) (h4 : (D2 640 1).Broadcasts (D2 640 128))
    (s : Fin 640) (R : Fin 128 → ℝ) (hv : ∀ d, v (ix2 s d) = ((R d : ℝ) : EReal)) (hR : ∀ d, |R d| ≤ bf16Max) :
    ∃ k : ℤ, (-125 ≤ k ∧ k ≤ 120) ∧ ∀ d, vExp v h1 h2 h3 h4 (ix2 s d) = BitVec.ofNat 32 (k + 127).toNat
      ∧ inv2 (vExp v h1 h2 h3 h4) (ix2 s d) = (((2 : ℝ) ^ (-k) : ℝ) : EReal)
      ∧ clip448 (mulf v (inv2 (vExp v h1 h2 h3 h4))) (ix2 s d) = ((R d * (2 : ℝ) ^ (-k) : ℝ) : EReal) := by
  obtain ⟨r, hf, r0, r1, hle⟩ := fold_abs (n := 128) (by decide) (fun d => FloatOps.absf (F := Ideal) (φ := .f32) (v (ix2 s d)))
    R (fun i => by rw [hv, absf_coe]) hR
  have ha : shapeCast (D2 640 1) (multiReduction .maximumf [1] (D1 640) (absf v) 0xFF800000#32 h1 (.inl rfl) rfl) h2 (ix2 s 0)
      = (r : EReal) := by
    pointwise
    rw [ofBits_neg_inf_f32]
    exact hf
  obtain ⟨k, k1, k2, he, hp, hi, h448⟩ := scale_val _ _ r ha r0 r1
  refine ⟨k, ⟨k1, k2⟩, fun d => ?_⟩
  have hE : vExp v h1 h2 h3 h4 (ix2 s d) = BitVec.ofNat 32 (k + 127).toNat := by
    unfold vExp
    rw [← he]
    generalize e8m0 _ = e
    pointwise
  have hI : inv2 (vExp v h1 h2 h3 h4) (ix2 s d) = (((2 : ℝ) ^ (-k) : ℝ) : EReal) := by
    rw [← hi]
    rw [← he] at hE
    generalize vExp v h1 h2 h3 h4 = e1 at hE ⊢
    generalize e8m0 _ = e2 at hE ⊢
    pointwise [inv2, pow2]
    rw [hE]
  refine ⟨hE, hI, ?_⟩
  generalize inv2 (vExp v h1 h2 h3 h4) = n at hI
  pointwise [clip448]
  rw [hv, hI, ← EReal.coe_mul, clip_coe _ (scaled_le (hle d) (by positivity) h448)]

/-- The value rows. -/
def vRows (x : Vec Ideal (D3 1 640 128) .bf16) (h0 : (D3 1 640 128).ShapeCasts (D2 640 128)) : FVec Ideal (D2 640 128) .f32 :=
  have y : FVec Ideal (D2 640 128) .bf16 := shapeCast (D2 640 128) x h0
  extf .f32 y (by decide)

/-- The values transposed, as codes. -/
def vCodes (v : FVec Ideal (D2 640 128) .f32) (e : IVec (D2 640 128) 32) (h1 : (D2 640 128).Transposes [1, 0] (D2 128 640))
    (h2 : (D2 128 640).ShapeCasts (D2 128 640)) : FVec Ideal (D2 128 640) .fp8e4m3 :=
  shapeCast (D2 128 640) (truncf .fp8e4m3 (transpose (D2 128 640) [1, 0]
    (extf .bf16 (truncf .fp8e4m3 (clip448 (mulf v (inv2 e))) (by decide)) (by decide)) h1) (by decide)) h2

theorem vCodes_apply (v : FVec Ideal (D2 640 128) .f32) (e : IVec (D2 640 128) 32) (h1 : (D2 640 128).Transposes [1, 0] (D2 128 640))
    (h2 : (D2 128 640).ShapeCasts (D2 128 640)) (d : Fin 128) (s : Fin 640) :
    vCodes v e h1 h2 (ix2 d s) = clip448 (mulf v (inv2 e)) (ix2 s d) := by
  unfold vCodes
  generalize clip448 _ = y
  pointwise

/-- The exponents of the value rows on lanes 70 to 72, zero elsewhere. -/
def evCols (e : IVec (D2 640 128) 32) (h : (D2 640 128).Iotas .tc 32 [1]) : FVec Ideal (D2 640 128) .bf16 :=
  have l : IVec (D2 640 128) 32 := iota .tc (D2 640 128) 32 [1] h
  truncf .bf16 (select (andi (cmpi .sge l (broadcast (D2 640 128) 70#32)) (cmpi .slt l (broadcast (D2 640 128) 73#32)))
    (sitofp .f32 (subi e (broadcast (D2 640 128) 127#32))) (broadcast (D2 640 128) (Scalar.ofBits .f32 0x00000000#32))) (by decide)

/-- The keys: transposed, quantised and widened, transposed back. -/
def kRows (x : Vec Ideal (D3 1 640 128) .bf16) (h0 : (D3 1 640 128).ShapeCasts (D2 640 128))
    (ht : (D2 640 128).Transposes [1, 0] (D2 128 640)) (ht' : (D2 128 640).Transposes [1, 0] (D2 640 128))
    (hs : (D2 640 128).ShapeCasts (D2 640 128))
    (hr : (D3 4 32 640).Reduces [1] (D2 4 640)) (h1 : (D2 128 640).ShapeCasts (D3 4 32 640))
    (h2 : (D2 4 640).ShapeCasts (D3 4 1 640)) (h3 : (D3 4 1 640).Broadcasts (D3 4 32 640)) (h4 : (D3 4 32 640).ShapeCasts (D2 128 640)) :
    FVec Ideal (D2 640 128) .bf16 :=
  shapeCast (D2 640 128) (transpose (D2 640 128) [1, 0] (mxWide 640 hr h1 h2 h3 h4
    (transpose (D2 128 640) [1, 0] (shapeCast (D2 640 128) x h0 : FVec Ideal (D2 640 128) .bf16) ht)) ht') hs

/-- Two groups' query rows: stacked, transposed, quantised and widened. -/
def qCols (xa xb : Vec Ideal (D3 1 64 128) .bf16) (h0 : (D3 1 64 128).ShapeCasts (D2 64 128))
    (hc : Shape.Concatenates [D2 64 128, D2 64 128] (D2 128 128) 0)
    (ht : (D2 128 128).Transposes [1, 0] (D2 128 128)) (hs : (D2 128 128).ShapeCasts (D3 1 128 128))
    (hr : (D3 4 32 128).Reduces [1] (D2 4 128)) (h1 : (D2 128 128).ShapeCasts (D3 4 32 128))
    (h2 : (D2 4 128).ShapeCasts (D3 4 1 128)) (h3 : (D3 4 1 128).Broadcasts (D3 4 32 128)) (h4 : (D3 4 32 128).ShapeCasts (D2 128 128)) :
    FVec Ideal (D3 1 128 128) .bf16 :=
  shapeCast (D3 1 128 128) (mxWide 128 hr h1 h2 h3 h4 (transpose (D2 128 128) [1, 0]
    (concatenate (D2 128 128) 0 [⟨D2 64 128, shapeCast (D2 64 128) xa h0⟩, ⟨D2 64 128, shapeCast (D2 64 128) xb h0⟩] hc
      : FVec Ideal (D2 128 128) .bf16) ht)) hs

theorem kRows_apply (x : Vec Ideal (D3 1 640 128) .bf16) (h0 : (D3 1 640 128).ShapeCasts (D2 640 128))
    (ht : (D2 640 128).Transposes [1, 0] (D2 128 640)) (ht' : (D2 128 640).Transposes [1, 0] (D2 640 128))
    (hs : (D2 640 128).ShapeCasts (D2 640 128))
    (hr : (D3 4 32 640).Reduces [1] (D2 4 640)) (h1 : (D2 128 640).ShapeCasts (D3 4 32 640))
    (h2 : (D2 4 640).ShapeCasts (D3 4 1 640)) (h3 : (D3 4 1 640).Broadcasts (D3 4 32 640)) (h4 : (D3 4 32 640).ShapeCasts (D2 128 640))
    (s : Fin 640) (R : Fin 128 → ℝ) (hx : ∀ d, x (ix3 0 s d) = ((R d : ℝ) : EReal)) (hR : ∀ d, |R d| ≤ bf16Max) (d : Fin 128) :
    kRows x h0 ht ht' hs hr h1 h2 h3 h4 (ix2 s d) = ((R d : ℝ) : EReal) := by
  unfold kRows
  have hy : ∀ d, (transpose (D2 128 640) [1, 0] (shapeCast (D2 640 128) x h0 : FVec Ideal (D2 640 128) .bf16) ht) (ix2 d s)
      = ((R d : ℝ) : EReal) := by
    intro d
    rw [← hx]
    pointwise
  have := mx_val 640 (by decide) hr h1 h2 h3 h4 _ s R hy hR d
  generalize mxWide 640 hr h1 h2 h3 h4 _ = y at this ⊢
  rw [← this]
  pointwise

theorem qCols_apply (xa xb : Vec Ideal (D3 1 64 128) .bf16) (h0 : (D3 1 64 128).ShapeCasts (D2 64 128))
    (hc : Shape.Concatenates [D2 64 128, D2 64 128] (D2 128 128) 0)
    (ht : (D2 128 128).Transposes [1, 0] (D2 128 128)) (hs : (D2 128 128).ShapeCasts (D3 1 128 128))
    (hr : (D3 4 32 128).Reduces [1] (D2 4 128)) (h1 : (D2 128 128).ShapeCasts (D3 4 32 128))
    (h2 : (D2 4 128).ShapeCasts (D3 4 1 128)) (h3 : (D3 4 1 128).Broadcasts (D3 4 32 128)) (h4 : (D3 4 32 128).ShapeCasts (D2 128 128))
    (j : Fin 128) (R : Fin 128 → ℝ) (ha : (j : ℕ) < 64 → ∀ d, xa (ix3 0 ⟨j % 64, by omega⟩ d) = ((R d : ℝ) : EReal))
    (hb : 64 ≤ (j : ℕ) → ∀ d, xb (ix3 0 ⟨j % 64, by omega⟩ d) = ((R d : ℝ) : EReal)) (hR : ∀ d, |R d| ≤ bf16Max) (d : Fin 128) :
    qCols xa xb h0 hc ht hs hr h1 h2 h3 h4 (ix3 0 d j) = ((R d : ℝ) : EReal) := by
  unfold qCols
  have hy : ∀ d, (transpose (D2 128 128) [1, 0]
    (concatenate (D2 128 128) 0 [⟨D2 64 128, shapeCast (D2 64 128) xa h0⟩, ⟨D2 64 128, shapeCast (D2 64 128) xb h0⟩] hc
      : FVec Ideal (D2 128 128) .bf16) ht) (ix2 d j) = ((R d : ℝ) : EReal) := by
    intro d
    pointwise
    split_ifs with hj
    · rw [← ha hj d]; congr; omega
    · rw [← hb (by omega) d]; congr; omega
    · exact absurd rfl ‹_›
  have := mx_val 128 (by decide) hr h1 h2 h3 h4 _ j R hy hR d
  generalize mxWide 128 hr h1 h2 h3 h4 _ = y at this ⊢
  rw [← this]
  pointwise

theorem evCols_apply (e : IVec (D2 640 128) 32) (h : (D2 640 128).Iotas .tc 32 [1]) (s : Fin 640) (l : Fin 128) (k : ℤ)
    (h1 : -125 ≤ k) (h2 : k ≤ 120) (he : e (ix2 s l) = BitVec.ofNat 32 (k + 127).toNat) :
    evCols e h (ix2 s l) = (((if 70 ≤ (l : ℕ) ∧ (l : ℕ) < 73 then (k : ℝ) else 0) : ℝ) : EReal) := by
  pointwise [evCols]
  rw [he]
  have hk : (BitVec.ofNat 32 (k + 127).toNat - 127#32).toInt = k := by
    obtain ⟨n, rfl⟩ : ∃ n : ℕ, k = (n : ℤ) - 125 := ⟨(k + 125).toNat, by omega⟩
    have : n ≤ 245 := by omega
    interval_cases n <;> rfl
  have hc : ∀ l : Fin 128, IntOp.andi (IntOp.cmpi CmpIPredicate.sge (BitVec.ofNat 32 l) 70#32)
      (IntOp.cmpi CmpIPredicate.slt (BitVec.ofNat 32 l) 73#32) = if 70 ≤ (l : ℕ) ∧ (l : ℕ) < 73 then 1#1 else 0#1 := by decide
  have hs : FloatOps.sitofp (F := Ideal) FTy.f32 (IntOp.subi (BitVec.ofNat 32 (k + 127).toNat) 127#32)
      = (((k : ℤ) : ℝ) : EReal) := by
    show (((BitVec.ofNat 32 (k + 127).toNat - 127#32).toInt : ℝ) : EReal) = _
    rw [hk]
  rw [hc, hs]
  split_ifs <;> rfl

end Cert.KernelIdeal.Ker
-- ==== Proof.Ker.Body.lean ====
/- One unit of the kernel body on what it loads: the pieces it stores hold the attention of their queries. -/
module

public import proofs.«01_k».proof.Proof.Ker.Quant
public import Idealize.ShloMosaic.Lib.WholeRead
public import Idealize.ShloMosaic.Lib.Pipeline.ReadBack

@[expose] public section

set_option maxRecDepth 16384

noncomputable section

namespace Cert.KernelIdeal.Ker

open Cert.KernelIdeal Idealize.ShloMosaic

/-- A unit-stride rectangle's index, at rank two. -/
theorem unit_idx2 {N M n m a b : ℕ} (h : ∀ i : Fin 2, (![a, b] : Fin 2 → ℕ) i + (D2 n m).size i ≤ (D2 N M).size i)
    (i : Fin n) (j : Fin m) (hi : a + (i : ℕ) < N) (hj : b + (j : ℕ) < M) :
    (Rect.unit (s := D2 N M) ![a, b] (D2 n m).size h).toLoadRect.idx (ix2 i j) = ix2 ⟨a + i, hi⟩ ⟨b + j, hj⟩ := by
  funext k
  refine Fin.cases ?_ (fun k => Fin.cases ?_ (fun k => k.elim0) k) k
  · exact Fin.ext (by show a + 1 * (i : ℕ) = a + i; omega)
  · exact Fin.ext (by show b + 1 * (j : ℕ) = b + j; omega)

/-- A unit-stride rectangle's index, at rank three. -/
theorem unit_idx3 {N M P n m p a b c : ℕ}
    (h : ∀ i : Fin 3, (![a, b, c] : Fin 3 → ℕ) i + (D3 n m p).size i ≤ (D3 N M P).size i)
    (i : Fin n) (j : Fin m) (k : Fin p) (hi : a + (i : ℕ) < N) (hj : b + (j : ℕ) < M) (hk : c + (k : ℕ) < P) :
    (Rect.unit (s := D3 N M P) ![a, b, c] (D3 n m p).size h).toLoadRect.idx (ix3 i j k)
      = ix3 ⟨a + i, hi⟩ ⟨b + j, hj⟩ ⟨c + k, hk⟩ := by
  funext l
  refine Fin.cases ?_ (fun l => Fin.cases ?_ (fun l => Fin.cases ?_ (fun l => l.elim0) l) l) l
  · exact Fin.ext (by show a + 1 * (i : ℕ) = a + i; omega)
  · exact Fin.ext (by show b + 1 * (j : ℕ) = b + j; omega)
  · exact Fin.ext (by show c + 1 * (k : ℕ) = c + k; omega)

/-- The left operand of a unit's score product: keys beside the bias rows and the value exponents. -/
def lhsRaw (n : ℕ) (h1 : (D2 n 128).ShapeCasts (D2 n 128)) (h4 : Shape.Concatenates [D2 n 128, D2 n 128] (D2 n 256) 1)
    (kw bl : Vec Ideal (D2 n 128) .bf16) (ev : FVec Ideal (D2 n 128) .bf16) : FVec Ideal (D2 n 256) .bf16 :=
  concatenate (D2 n 256) 1 [⟨D2 n 128, kw⟩, ⟨D2 n 128, addf (shapeCast (D2 n 128) bl h1) ev⟩] h4

theorem lhsRaw_left (n : ℕ) (h1 : (D2 n 128).ShapeCasts (D2 n 128))
    (h4 : Shape.Concatenates [D2 n 128, D2 n 128] (D2 n 256) 1) (kw bl : Vec Ideal (D2 n 128) .bf16)
    (ev : FVec Ideal (D2 n 128) .bf16) (i : Fin n) (k : Fin 128) :
    lhsRaw n h1 h4 kw bl ev (ix2 i ⟨k, by omega⟩) = kw (ix2 i k) := by
  pointwise [lhsRaw]

theorem lhsRaw_right (n : ℕ) (h1 : (D2 n 128).ShapeCasts (D2 n 128))
    (h4 : Shape.Concatenates [D2 n 128, D2 n 128] (D2 n 256) 1) (kw bl : Vec Ideal (D2 n 128) .bf16)
    (ev : FVec Ideal (D2 n 128) .bf16) (i : Fin n) (k : Fin 128) :
    lhsRaw n h1 h4 kw bl ev (ix2 i ⟨128 + k, by omega⟩) = bl (ix2 i k) + ev (ix2 i k) := by
  rw [lhsRaw, shapeCast_self]
  pointwise

/-- The table of bias columns at key row `r`, lane `l`. -/
def rowTab (r l : ℕ) : ℝ :=
  if l < 64 then (if r / 64 = 9 ∧ r % 64 = l then 1 else 0)
  else if l < 67 then ((r % 64 : ℕ) : ℝ) else if l < 70 then (((r / 64 : ℕ) : ℝ) - 9) * 64 else 0

/-- The table of bias rows at lane `l`, column `j`, for slopes `σ`. -/
def colTab (σ : Fin 10 → ℝ) (l : ℕ) (j : Fin 640) : ℝ :=
  if l < 64 then (if (j : ℕ) % 64 < l then 1 else 0)
  else if l = 64 ∨ l = 67 then σ ⟨j / 64, by omega⟩ * Real.sqrt 128 else if l = 70 then Real.sqrt 128 * Real.log 2 else 0

/-- A column of the transposed queries of tile `t`. -/
def qOf (X : Fin 640 → Fin 1280 → ℝ) (t : ℕ) (ht : t < 10) (j : Fin 640) (k : Fin 128) : ℝ :=
  X ⟨t * 64 + j % 64, by omega⟩ ⟨j / 64 * 128 + k, by omega⟩

/-- A block of the result. -/
def G (K V : Fin 640 → Fin 128 → ℝ) (X : Fin 640 → Fin 1280 → ℝ) (σ : Fin 10 → ℝ) (y : (D3 1 640 1280).Idx) : EReal :=
  ((att K V (fun k => X (y 1) ⟨(y 2 : ℕ) / 128 * 128 + k, by have := (y 2).isLt; change (y 2 : ℕ) < 1280 at this; omega⟩)
    (σ ⟨(y 2 : ℕ) / 128, by have := (y 2).isLt; change (y 2 : ℕ) < 1280 at this; omega⟩) (y 1)
    ⟨(y 2 : ℕ) % 128, Nat.mod_lt _ (by decide)⟩ : ℝ) : EReal)

/-- A group's rows out of a unit of two groups. -/
theorem take2 (ro : ℕ) (hro : ro = 0 ∨ ro = 64) (y : FVec Ideal (D2 128 128) .bf16) (e2 : (D2 128 128).Transposes [1, 0] (D2 128 128))
    (e3 : (D2 128 128).Slices ![ro, 0] (D2 64 128)) (e4 : (D2 64 128).ShapeCasts (D3 1 64 128)) (r : Fin 64) (d : Fin 128) :
    shapeCast (D3 1 64 128) (extractStridedSlice (D2 64 128) ![ro, 0] (transpose (D2 128 128) [1, 0] y e2) e3) e4 (ix3 0 r d)
      = y (ix2 d ⟨ro + r, by omega⟩) := by
  rcases hro with rfl | rfl
  · pointwise
  · pointwise

/-- A group's rows out of a unit of four groups. -/
theorem take4 (ro cc : ℕ) (hro : ro = 0 ∨ ro = 64) (hcc : cc = 0 ∨ cc = 128) (y : FVec Ideal (D2 128 256) .bf16)
    (e1 : (D2 128 256).Slices ![0, cc] (D2 128 128)) (e2 : (D2 128 128).Transposes [1, 0] (D2 128 128))
    (e3 : (D2 128 128).Slices ![ro, 0] (D2 64 128)) (e4 : (D2 64 128).ShapeCasts (D3 1 64 128)) (r : Fin 64) (d : Fin 128) :
    shapeCast (D3 1 64 128) (extractStridedSlice (D2 64 128) ![ro, 0] (transpose (D2 128 128) [1, 0]
      (extractStridedSlice (D2 128 128) ![0, cc] y e1) e2) e3) e4 (ix3 0 r d) = y (ix2 d ⟨cc + ro + r, by omega⟩) := by
  rw [take2 ro hro]
  rcases hcc with rfl | rfl
  · pointwise
  · pointwise
    simp only [Nat.add_assoc]

theorem fits {t R : ℕ} (hR : R = t * 64) (ht : t < 10) (C : ℕ) (hC : C + 128 ≤ 1280) :
    ∀ a : Fin 3, (![0, R, C] : Fin 3 → ℕ) a + (D3 1 64 128).size a ≤ (D3 1 640 1280).size a :=
  Fin.cases (by decide : (0 : ℕ) + 1 ≤ 1) (Fin.cases (show R + 64 ≤ 640 by omega) (Fin.cases hC fun a => a.elim0))

theorem fitsQ (b : Fin 2) (C : ℕ) (hC : C + 128 ≤ 640) :
    ∀ a : Fin 3, (![(b : ℕ), 0, C] : Fin 3 → ℕ) a + (D3 1 128 128).size a ≤ (D3 2 128 640).size a :=
  Fin.cases (show (b : ℕ) + 1 ≤ 2 by omega) (Fin.cases (by decide : (0 : ℕ) + 128 ≤ 128) (Fin.cases hC fun a => a.elim0))

/-- What the body has prepared before its first unit, and its tables. -/
structure Ready (K V : Fin 640 → Fin 128 → ℝ) (ev : Fin 640 → ℤ) (σ : Fin 10 → ℝ)
    (L0 : List (View.Piece (Elt Ideal) (D2 640 128) .bf16)) (L1 : List (View.Piece (Elt Ideal) (D2 128 640) .fp8e4m3))
    (L2 : List (View.Piece (Elt Ideal) (D2 640 128) .f32)) (evc : FVec Ideal (D2 640 128) .bf16)
    (x3 : Vec Ideal (D3 1 128 640) .bf16) (x4 : Vec Ideal (D2 640 128) .bf16) : Prop where
  h0 : ∀ s k, View.canon L0 (ix2 s k) = ((K s k : ℝ) : EReal)
  h1 : ∀ d s, View.canon L1 (ix2 d s) = ((V s d * (2 : ℝ) ^ (-ev s) : ℝ) : EReal)
  h2 : ∀ s l, View.canon L2 (ix2 s l) = (((2 : ℝ) ^ (-ev s) : ℝ) : EReal)
  hev : ∀ s, -125 ≤ ev s ∧ ev s ≤ 120
  hevc : ∀ s (l : Fin 128), evc (ix2 s l) = (((if 70 ≤ (l : ℕ) ∧ (l : ℕ) < 73 then (ev s : ℝ) else 0) : ℝ) : EReal)
  h3 : ∀ (l : Fin 128) j, x3 (ix3 0 l j) = ((colTab σ l j : ℝ) : EReal)
  h4 : ∀ r (l : Fin 128), x4 (ix2 r l) = ((rowTab r l : ℝ) : EReal)

/-- The queries of tile `t`, as they lie in their buffer. -/
def Filled (X : Fin 640 → Fin 1280 → ℝ) (t : ℕ) (ht : t < 10) (b : Fin 2)
    (L4 : List (View.Piece (Elt Ideal) (D3 2 128 640) .bf16)) : Prop :=
  ∀ k j, View.canon L4 (ix3 b k j) = ((qOf X t ht j k : ℝ) : EReal)

section

variable {K V : Fin 640 → Fin 128 → ℝ} {ev : Fin 640 → ℤ} {X : Fin 640 → Fin 1280 → ℝ} {σ : Fin 10 → ℝ}
  {L0 : List (View.Piece (Elt Ideal) (D2 640 128) .bf16)} {L1 : List (View.Piece (Elt Ideal) (D2 128 640) .fp8e4m3)}
  {L2 : List (View.Piece (Elt Ideal) (D2 640 128) .f32)} {evc : FVec Ideal (D2 640 128) .bf16}
  {x3 : Vec Ideal (D3 1 128 640) .bf16} {x4 : Vec Ideal (D2 640 128) .bf16}
  {L4 : List (View.Piece (Elt Ideal) (D3 2 128 640) .bf16)}
  {arg5 : Memref sig .tc .vmem (D3 1 128 640) .bf16} {harg5 : arg5.IsWhole}
  {arg6 : Memref sig .tc .vmem (D2 640 128) .bf16} {harg6 : arg6.IsWhole}
  {arg14 : Memref sig .tc .vmem (D2 640 128) .bf16} {arg15 : Memref sig .tc .vmem (D2 128 640) .fp8e4m3}
  {arg16 : Memref sig .tc .vmem (D2 640 128) .f32} {arg18 : Memref sig .tc .vmem (D3 2 128 640) .bf16}

theorem unitIn_of (H : Ready K V ev σ L0 L1 L2 evc x3 x4) (n W t off r0 : ℕ) (b : Fin 2) (ht : t < 10) (HQ : Filled X t ht b L4)
    (hn : n = 64 * (t + 1)) (hr0 : r0 + n = 640) (hW : W ≠ 1) (ho : off % 64 = 0) (hoW : off + W ≤ 640)
    (h1 : (D2 n 128).ShapeCasts (D2 n 128)) (h4 : Shape.Concatenates [D2 n 128, D2 n 128] (D2 n 256) 1)
    (evn : FVec Ideal (D2 n 128) .bf16)
    (hevn : ∀ (i : Fin n) (l : Fin 128), evn (ix2 i l)
      = (((if 70 ≤ (l : ℕ) ∧ (l : ℕ) < 73 then (ev ⟨i, by omega⟩ : ℝ) else 0) : ℝ) : EReal))
    (i0 : ∀ a : Fin 2, (![0, 0] : Fin 2 → ℕ) a + (D2 n 128).size a ≤ (D2 640 128).size a)
    (i1 : ∀ a : Fin 2, (![0, 0] : Fin 2 → ℕ) a + (D2 128 n).size a ≤ (D2 128 640).size a)
    (i6 : ∀ a : Fin 2, (![r0, 0] : Fin 2 → ℕ) a + (D2 n 128).size a ≤ (D2 640 128).size a)
    (i5 : ∀ a : Fin 3, (![0, 0, off] : Fin 3 → ℕ) a + (D3 1 128 W).size a ≤ (D3 1 128 640).size a)
    (i18 : ∀ a : Fin 3, (![b, 0, off] : Fin 3 → ℕ) a + (D3 1 128 W).size a ≤ (D3 2 128 640).size a)
    (nev : FVec Ideal (D2 n W) .f32)
    (hnev : ∀ (i : Fin n) (j : Fin W), nev (ix2 i j) = (((2 : ℝ) ^ (-ev ⟨i, by omega⟩) : ℝ) : EReal)) :
    UnitIn n W t K V ev (fun j => qOf X t ht ⟨off + j, by omega⟩) (fun j => σ ⟨(off + j) / 64, by omega⟩)
      (lhsRaw n h1 h4 (arg14.view.readCov L0 (Rect.unit (s := D2 640 128) ![0, 0] (D2 n 128).size i0).toLoadRect)
        (View.readAt (Elt Ideal) arg6.view (Rect.unit (s := D2 640 128) ![r0, 0] (D2 n 128).size i6).toLoadRect (harg6.unread x4)) evn)
      (View.readAt (Elt Ideal) arg5.view (Rect.unit (s := D3 1 128 640) ![0, 0, off] (D3 1 128 W).size i5).toLoadRect (harg5.unread x3))
      (arg18.view.readCov L4 (Rect.unit (s := D3 2 128 640) ![(b : ℕ), 0, off] (D3 1 128 W).size i18).toLoadRect)
      nev (arg15.view.readCov L1 (Rect.unit (s := D2 128 640) ![0, 0] (D2 128 n).size i1).toLoadRect) := by
  have hlane : ∀ (i : Fin n) (k : Fin 128), lhsRaw n h1 h4
      (arg14.view.readCov L0 (Rect.unit (s := D2 640 128) ![0, 0] (D2 n 128).size i0).toLoadRect)
      (View.readAt (Elt Ideal) arg6.view (Rect.unit (s := D2 640 128) ![r0, 0] (D2 n 128).size i6).toLoadRect (harg6.unread x4)) evn
      (ix2 i ⟨128 + k, by omega⟩) = ((rowTab (r0 + i) k + (if 70 ≤ (k : ℕ) ∧ (k : ℕ) < 73 then (ev ⟨i, by omega⟩ : ℝ) else 0) : ℝ) : EReal) := by
    intro i k
    rw [lhsRaw_right, harg6.readAt_unread, unit_idx2 i6 i k (by omega) (by omega), hevn, EReal.coe_add]
    have := H.h4 ⟨r0 + i, by omega⟩ ⟨0 + k, by omega⟩
    rw [this]
    simp only [zero_add]
  refine ⟨hn, by omega, hW, ?_, ?_, ?_, ?_, ?_, ?_, H.hev, hnev, ?_⟩
  · intro i k
    rw [lhsRaw_left, View.readCov_eq_canon']
    show View.canon L0 _ = _
    rw [unit_idx2 i0 i k (by omega) (by omega), H.h0]
    simp only [zero_add]
  · intro i k
    have := hlane i ⟨k, by omega⟩
    refine this.trans ?_
    have e1 : (r0 + i) / 64 = 9 ∧ (r0 + (i : ℕ)) % 64 = k ↔ t * 64 + (k : ℕ) = i := by omega
    rw [rowTab, if_pos (show ((⟨k, by omega⟩ : Fin 128) : ℕ) < 64 from k.isLt),
      if_neg (show ¬(70 ≤ (k : ℕ) ∧ (k : ℕ) < 73) by omega), add_zero]
    simp only [e1]
    split <;> simp
  · intro i k
    have := hlane i ⟨64 + k, by omega⟩
    have e : (⟨192 + (k : ℕ), by omega⟩ : Fin 256) = ⟨128 + ((⟨64 + k, by omega⟩ : Fin 128) : ℕ), by simp; omega⟩ :=
      Fin.ext (by simp; omega)
    rw [e]
    refine this.trans ?_
    congr 1
    have e1 : (r0 + (i : ℕ)) % 64 = i % 64 := by omega
    have e2 : (r0 + (i : ℕ)) / 64 + t = 9 + i / 64 := by omega
    have e3 : (((r0 + (i : ℕ)) / 64 : ℕ) : ℝ) - 9 = ((i / 64 : ℕ) : ℝ) - t := by
      have : (((r0 + (i : ℕ)) / 64 : ℕ) : ℝ) + t = 9 + ((i / 64 : ℕ) : ℝ) := by exact_mod_cast e2
      linarith
    have g : ∀ (e : ℝ) (m : ℕ), m < 64 → (if 64 + m < 64 then (if (r0 + (i : ℕ)) / 64 = 9 ∧ (r0 + (i : ℕ)) % 64 = 64 + m then 1 else 0)
        else if 64 + m < 67 then (((r0 + (i : ℕ)) % 64 : ℕ) : ℝ) else if 64 + m < 70 then
          (((((r0 + (i : ℕ)) / 64 : ℕ) : ℝ)) - 9) * 64 else 0) + (if 70 ≤ 64 + m ∧ 64 + m < 73 then e else 0)
        = if m < 3 then ((i % 64 : ℕ) : ℝ) else if m < 6 then (((i / 64 : ℕ) : ℝ) - t) * 64 else if m < 9 then e else 0 := by
      intro e m hm
      rw [e1, e3, if_neg (by omega)]
      rcases lt_or_ge m 3 with h | h
      · rw [if_pos (by omega), if_neg (by omega), if_pos h, add_zero]
      rcases lt_or_ge m 6 with h' | h'
      · rw [if_neg (by omega), if_pos (by omega), if_neg (by omega), if_neg (by omega), if_pos h', add_zero]
      rw [if_neg (show ¬64 + m < 67 by omega), if_neg (show ¬64 + m < 70 by omega), if_neg (show ¬m < 3 by omega),
        if_neg (show ¬m < 6 by omega), zero_add]
      exact if_congr (by omega) rfl rfl
    exact g _ k k.isLt
  · intro k j
    rw [harg5.readAt_unread, unit_idx3 i5 0 _ j (by simp) (by simp; omega) (by omega)]
    have := H.h3 ⟨0 + k, by omega⟩ ⟨off + j, by omega⟩
    refine this.trans ?_
    have e : (off + (j : ℕ)) % 64 = j % 64 := by omega
    rw [colTab, if_pos (by simp), e]
    simp only [zero_add]
    split <;> simp
  · intro k j
    rw [harg5.readAt_unread, unit_idx3 i5 0 _ j (by simp) (by simp; omega) (by omega)]
    have := H.h3 ⟨0 + (64 + k), by omega⟩ ⟨off + j, by omega⟩
    refine this.trans ?_
    congr 1
    have e0 : (0 + (64 + (k : ℕ)) : ℕ) = 64 + k := by omega
    simp only [colTab, slopeLane, e0]
    rw [if_neg (by omega)]
    exact if_congr (by omega) rfl (if_congr (by omega) rfl rfl)
  · intro k j
    rw [View.readCov_eq_canon']
    show View.canon L4 _ = _
    rw [unit_idx3 i18 0 k j (by simp; omega) (by simp) (by omega)]
    have := HQ ⟨0 + k, by omega⟩ ⟨off + j, by omega⟩
    simp only [zero_add] at this ⊢
    exact this
  · intro d i
    rw [View.readCov_eq_canon']
    show View.canon L1 _ = _
    rw [unit_idx2 i1 d i (by omega) (by omega)]
    have := H.h1 ⟨0 + d, by omega⟩ ⟨0 + i, by omega⟩
    simp only [zero_add] at this ⊢
    exact this

/-- The exponent lanes of the first `n` rows. -/
theorem Ready.slice (H : Ready K V ev σ L0 L1 L2 evc x3 x4) {n : ℕ} (hn : n ≤ 640) {h2 : (D2 640 128).Slices ![0, 0] (D2 n 128)}
    (i : Fin n) (l : Fin 128) : extractStridedSlice (D2 n 128) ![0, 0] evc h2 (ix2 i l)
      = (((if 70 ≤ (l : ℕ) ∧ (l : ℕ) < 73 then (ev ⟨i, by omega⟩ : ℝ) else 0) : ℝ) : EReal) := by
  rw [← H.hevc]
  pointwise

/-- The inverse scales of the first `n` rows. -/
theorem Ready.one (H : Ready K V ev σ L0 L1 L2 evc x3 x4) {n : ℕ} (hn : n ≤ 640)
    {i2 : ∀ a : Fin 2, (![0, 0] : Fin 2 → ℕ) a + (D2 n 128).size a ≤ (D2 640 128).size a} (i : Fin n) (j : Fin 128) :
    arg16.view.readCov L2 (Rect.unit (s := D2 640 128) ![0, 0] (D2 n 128).size i2).toLoadRect (ix2 i j)
      = (((2 : ℝ) ^ (-ev ⟨i, by omega⟩) : ℝ) : EReal) := by
  rw [View.readCov_eq_canon']
  show View.canon L2 _ = _
  rw [unit_idx2 i2 i j (by omega) (by omega), H.h2]
  simp only [zero_add]

/-- The same beside itself. -/
theorem Ready.pair (H : Ready K V ev σ L0 L1 L2 evc x3 x4) {n : ℕ} (hn : n ≤ 640)
    {i2 : ∀ a : Fin 2, (![0, 0] : Fin 2 → ℕ) a + (D2 n 128).size a ≤ (D2 640 128).size a}
    {hc : Shape.Concatenates [D2 n 128, D2 n 128] (D2 n 256) 1} (i : Fin n) (j : Fin 256) :
    concatenate (D2 n 256) 1 [⟨D2 n 128, (arg16.view.readCov L2 (Rect.unit (s := D2 640 128) ![0, 0] (D2 n 128).size i2).toLoadRect : FVec Ideal (D2 n 128) .f32)⟩,
      ⟨D2 n 128, (arg16.view.readCov L2 (Rect.unit (s := D2 640 128) ![0, 0] (D2 n 128).size i2).toLoadRect : FVec Ideal (D2 n 128) .f32)⟩] hc (ix2 i j)
      = (((2 : ℝ) ^ (-ev ⟨i, by omega⟩) : ℝ) : EReal) := by
  have h := fun j => H.one (arg16 := arg16) hn (i2 := i2) i j
  generalize (arg16.view.readCov L2 (Rect.unit (s := D2 640 128) ![0, 0] (D2 n 128).size i2).toLoadRect : FVec Ideal (D2 n 128) .f32) = y at h ⊢
  pointwise
  split_ifs
  · exact h _
  · exact h _
  · exact absurd rfl ‹_›

/-- The result's block at a piece's element. -/
theorem G_emb (t g r R C : ℕ) (hg : g < 10) (ht : t < 10) (hR : R = t * 64) (hC : C = g * 128)
    (e : ∀ a : Fin 3, (![0, R, C] : Fin 3 → ℕ) a + (D3 1 64 128).size a ≤ (D3 1 640 1280).size a)
    (hr : r < 64) (d : Fin 128) (col : Fin 640) (hcol : (col : ℕ) = g * 64 + r) :
    ((att K V (qOf X t ht col) (σ ⟨(col : ℕ) / 64, by omega⟩) (t * 64 + col % 64) d : ℝ) : EReal)
      = G K V X σ ((Rect.unit (s := D3 1 640 1280) ![0, R, C] (D3 1 64 128).size e).emb (ix3 0 ⟨r, hr⟩ d)) := by
  have e1 := unit_idx3 e 0 ⟨r, hr⟩ d (by simp) (by simp; omega) (by omega)
  rw [show (Rect.unit (s := D3 1 640 1280) ![0, R, C] (D3 1 64 128).size e).emb (ix3 0 ⟨r, hr⟩ d) = _ from e1]
  have a1 : (C + (d : ℕ)) / 128 = g := by omega
  have a2 : (C + (d : ℕ)) % 128 = d := by omega
  have a3 : (col : ℕ) / 64 = g := by omega
  have a4 : t * 64 + (col : ℕ) % 64 = R + r := by omega
  show _ = ((att K V (fun k => X ⟨R + r, _⟩ ⟨(C + (d : ℕ)) / 128 * 128 + k, _⟩) (σ ⟨(C + (d : ℕ)) / 128, _⟩) (R + r)
    ⟨(C + (d : ℕ)) % 128, _⟩ : ℝ) : EReal)
  have hq : qOf X t ht col = fun k : Fin 128 => X ⟨R + r, by omega⟩ ⟨g * 128 + k, by omega⟩ := by
    funext k
    simp only [qOf, a3, a4]
  simp only [a1, a2, hq, a3, a4]

variable {t : ℕ} {b : Fin 2} {ht : t < 10}
  {arg20 arg21 : Memref sig .tc .vmem S640x256 .f32} {L6 L7 : List (View.Piece (Elt Ideal) S640x256 .f32)}

/-- A unit's output columns on what the body loads for them. -/
def unitOut (n W off r0 : ℕ) (b : Fin 2)
    (L0 : List (View.Piece (Elt Ideal) (D2 640 128) .bf16)) (L1 : List (View.Piece (Elt Ideal) (D2 128 640) .fp8e4m3))
    (x3 : Vec Ideal (D3 1 128 640) .bf16) (x4 : Vec Ideal (D2 640 128) .bf16) (L4 : List (View.Piece (Elt Ideal) (D3 2 128 640) .bf16))
    (arg5 : Memref sig .tc .vmem (D3 1 128 640) .bf16) (harg5 : arg5.IsWhole)
    (arg6 : Memref sig .tc .vmem (D2 640 128) .bf16) (harg6 : arg6.IsWhole)
    (arg14 : Memref sig .tc .vmem (D2 640 128) .bf16) (arg15 : Memref sig .tc .vmem (D2 128 640) .fp8e4m3)
    (arg18 : Memref sig .tc .vmem (D3 2 128 640) .bf16)
    (arg20 arg21 : Memref sig .tc .vmem S640x256 .f32) (L6 L7 : List (View.Piece (Elt Ideal) S640x256 .f32))
    (evn : FVec Ideal (D2 n 128) .bf16) (nev : FVec Ideal (D2 n W) .f32)
    (h1 : (D2 n 128).ShapeCasts (D2 n 128)) (h4 : Shape.Concatenates [D2 n 128, D2 n 128] (D2 n 256) 1)
    (i0 : ∀ a : Fin 2, (![0, 0] : Fin 2 → ℕ) a + (D2 n 128).size a ≤ (D2 640 128).size a)
    (i1 : ∀ a : Fin 2, (![0, 0] : Fin 2 → ℕ) a + (D2 128 n).size a ≤ (D2 128 640).size a)
    (i6 : ∀ a : Fin 2, (![r0, 0] : Fin 2 → ℕ) a + (D2 n 128).size a ≤ (D2 640 128).size a)
    (i5 : ∀ a : Fin 3, (![0, 0, off] : Fin 3 → ℕ) a + (D3 1 128 W).size a ≤ (D3 1 128 640).size a)
    (i18 : ∀ a : Fin 3, (![b, 0, off] : Fin 3 → ℕ) a + (D3 1 128 W).size a ≤ (D3 2 128 640).size a)
    (hin : ∀ a : Fin 2, (![0, 0] : Fin 2 → ℕ) a + (D2 n W).size a ≤ S640x256.size a)
    (hs : (D2 n W).ShapeCasts (D2 n W)) (u1 : (D3 1 128 W).ShapeCasts (D2 128 W)) (u2 : (D2 128 W).Slices ![0, 0] (D2 64 W))
    (u3 : (D2 128 W).Slices ![64, 0] (D2 64 W)) (u4 : Shape.Concatenates [D2 128 W, D2 64 W, D2 64 W] (D2 256 W) 0)
    (u5 : (D2 n W).Reduces [0] (D1 W)) (u6 : (D1 W).ShapeCasts (D2 1 W)) (u7 : (D2 1 W).Broadcasts (D2 n W))
    (u8 : (D2 1 W).Broadcasts (D2 128 W)) : FVec Ideal (D2 128 W) .bf16 :=
  unitRaw n W arg20 arg21 hin L6 L7 hs u1 u2 u3 u4 u5 u6 u7 u8
    (lhsRaw n h1 h4 (arg14.view.readCov L0 (Rect.unit (s := D2 640 128) ![0, 0] (D2 n 128).size i0).toLoadRect)
      (View.readAt (Elt Ideal) arg6.view (Rect.unit (s := D2 640 128) ![r0, 0] (D2 n 128).size i6).toLoadRect (harg6.unread x4)) evn)
    (View.readAt (Elt Ideal) arg5.view (Rect.unit (s := D3 1 128 640) ![0, 0, off] (D3 1 128 W).size i5).toLoadRect (harg5.unread x3))
    (arg18.view.readCov L4 (Rect.unit (s := D3 2 128 640) ![(b : ℕ), 0, off] (D3 1 128 W).size i18).toLoadRect)
    nev (arg15.view.readCov L1 (Rect.unit (s := D2 128 640) ![0, 0] (D2 128 n).size i1).toLoadRect)

/-- A piece of a unit of four groups is a block of the result. -/
theorem piece4 (H : Ready K V ev σ L0 L1 L2 evc x3 x4) (HQ : Filled X t ht b L4) {n : ℕ} (hn : n = 64 * (t + 1)) (off r0 ro cc R C : ℕ)
    {evn : FVec Ideal (D2 n 128) .bf16} {nev : FVec Ideal (D2 n 256) .f32}
    (hevn : ∀ (i : Fin n) (l : Fin 128), evn (ix2 i l)
      = (((if 70 ≤ (l : ℕ) ∧ (l : ℕ) < 73 then (ev ⟨i, by omega⟩ : ℝ) else 0) : ℝ) : EReal))
    (hnev : ∀ (i : Fin n) (j : Fin 256), nev (ix2 i j) = (((2 : ℝ) ^ (-ev ⟨i, by omega⟩) : ℝ) : EReal))
    {h1 i0 i1 i6 i5 i18 hin hs u1 u2 u3 u4 u5 u6 u7 u8}
    {e2 : (D2 128 128).Transposes [1, 0] (D2 128 128)}
    {e4 : (D2 64 128).ShapeCasts (D3 1 64 128)}
    (x : (D3 1 64 128).Idx)
    (hr0 : r0 + n = 640 := by decide) (ho : off % 64 = 0 := by decide) (hoW : off + 256 ≤ 640 := by decide)
    (hro : ro = 0 ∨ ro = 64 := by decide) (hcc : cc = 0 ∨ cc = 128 := by decide)
    (hR : R = t * 64 := by decide) (hC : C = (off / 64 + cc / 64 + ro / 64) * 128 := by decide)
    (e1 : (D2 128 256).Slices ![0, cc] (D2 128 128) := by decide) (e3 : (D2 128 128).Slices ![ro, 0] (D2 64 128) := by decide)
    (e : ∀ a : Fin 3, (![0, R, C] : Fin 3 → ℕ) a + (D3 1 64 128).size a ≤ (D3 1 640 1280).size a := by decide)
    (h4 : Shape.Concatenates [D2 n 128, D2 n 128] (D2 n 256) 1 := by decide) :
    shapeCast (D3 1 64 128) (extractStridedSlice (D2 64 128) ![ro, 0] (transpose (D2 128 128) [1, 0]
      (extractStridedSlice (D2 128 128) ![0, cc] (unitOut n 256 off r0 b L0 L1 x3 x4 L4 arg5 harg5 arg6 harg6 arg14 arg15 arg18
        arg20 arg21 L6 L7 evn nev h1 h4 i0 i1 i6 i5 i18 hin hs u1 u2 u3 u4 u5 u6 u7 u8) e1) e2) e3) e4 x
      = G K V X σ ((Rect.unit (s := D3 1 640 1280) ![0, R, C] (D3 1 64 128).size e).emb x) := by
  have hv := fun d j => unit_val (unitIn_of (arg14 := arg14) (arg15 := arg15) (arg18 := arg18) (harg5 := harg5) (harg6 := harg6)
    H n 256 t off r0 b ht HQ hn hr0 (by decide) ho hoW h1 h4 evn hevn i0 i1 i6 i5 i18 nev hnev)
    arg20 arg21 hin L6 L7 hs u1 u2 u3 u4 u5 u6 u7 u8 d j
  obtain ⟨x0, r, d, rfl⟩ : ∃ x0 r d, x = ix3 x0 r d := ⟨_, _, _, eq_ix3 x⟩
  obtain rfl : x0 = 0 := Subsingleton.elim _ _
  have hj : cc + ro + (r : ℕ) < 256 := by omega
  have hv' : ∀ (d : Fin 128) (j : Fin 256), unitOut n 256 off r0 b L0 L1 x3 x4 L4 arg5 harg5 arg6 harg6 arg14 arg15 arg18
      arg20 arg21 L6 L7 evn nev h1 h4 i0 i1 i6 i5 i18 hin hs u1 u2 u3 u4 u5 u6 u7 u8 (ix2 d j) = ((att K V (qOf X t ht ⟨off + j, by omega⟩)
      (σ ⟨(off + j) / 64, by omega⟩) (t * 64 + (off + j) % 64) d : ℝ) : EReal) := by
    intro d j
    have e : (j : ℕ) % 64 = (off + (j : ℕ)) % 64 := by omega
    rw [← e]
    exact hv d j
  rw [take4 ro cc hro hcc, hv']
  exact G_emb t (off / 64 + cc / 64 + ro / 64) r R C (by omega) ht hR hC e r.isLt d ⟨off + (cc + ro + r), by omega⟩
    (show off + (cc + ro + (r : ℕ)) = (off / 64 + cc / 64 + ro / 64) * 64 + r by omega)

/-- A piece of the last unit of a tile, of two groups, is a block of the result. -/
theorem piece2 (H : Ready K V ev σ L0 L1 L2 evc x3 x4) (HQ : Filled X t ht b L4) {n : ℕ} (hn : n = 64 * (t + 1)) (off r0 ro R C : ℕ)
    {evn : FVec Ideal (D2 n 128) .bf16} {nev : FVec Ideal (D2 n 128) .f32}
    (hevn : ∀ (i : Fin n) (l : Fin 128), evn (ix2 i l)
      = (((if 70 ≤ (l : ℕ) ∧ (l : ℕ) < 73 then (ev ⟨i, by omega⟩ : ℝ) else 0) : ℝ) : EReal))
    (hnev : ∀ (i : Fin n) (j : Fin 128), nev (ix2 i j) = (((2 : ℝ) ^ (-ev ⟨i, by omega⟩) : ℝ) : EReal))
    {h1 i0 i1 i6 i5 i18 hin hs u1 u2 u3 u4 u5 u6 u7 u8}
    {e2 : (D2 128 128).Transposes [1, 0] (D2 128 128)}
    {e4 : (D2 64 128).ShapeCasts (D3 1 64 128)}
    (x : (D3 1 64 128).Idx)
    (hr0 : r0 + n = 640 := by decide) (ho : off % 64 = 0 := by decide) (hoW : off + 128 ≤ 640 := by decide)
    (hro : ro = 0 ∨ ro = 64 := by decide)
    (hR : R = t * 64 := by decide) (hC : C = (off / 64 + ro / 64) * 128 := by decide)
    (e3 : (D2 128 128).Slices ![ro, 0] (D2 64 128) := by decide)
    (e : ∀ a : Fin 3, (![0, R, C] : Fin 3 → ℕ) a + (D3 1 64 128).size a ≤ (D3 1 640 1280).size a := by decide)
    (h4 : Shape.Concatenates [D2 n 128, D2 n 128] (D2 n 256) 1 := by decide) :
    shapeCast (D3 1 64 128) (extractStridedSlice (D2 64 128) ![ro, 0] (transpose (D2 128 128) [1, 0]
      (unitOut n 128 off r0 b L0 L1 x3 x4 L4 arg5 harg5 arg6 harg6 arg14 arg15 arg18
        arg20 arg21 L6 L7 evn nev h1 h4 i0 i1 i6 i5 i18 hin hs u1 u2 u3 u4 u5 u6 u7 u8) e2) e3) e4 x
      = G K V X σ ((Rect.unit (s := D3 1 640 1280) ![0, R, C] (D3 1 64 128).size e).emb x) := by
  have hv := fun d j => unit_val (unitIn_of (arg14 := arg14) (arg15 := arg15) (arg18 := arg18) (harg5 := harg5) (harg6 := harg6)
    H n 128 t off r0 b ht HQ hn hr0 (by decide) ho hoW h1 h4 evn hevn i0 i1 i6 i5 i18 nev hnev)
    arg20 arg21 hin L6 L7 hs u1 u2 u3 u4 u5 u6 u7 u8 d j
  obtain ⟨x0, r, d, rfl⟩ : ∃ x0 r d, x = ix3 x0 r d := ⟨_, _, _, eq_ix3 x⟩
  obtain rfl : x0 = 0 := Subsingleton.elim _ _
  have hj : ro + (r : ℕ) < 128 := by omega
  have hv' : ∀ (d : Fin 128) (j : Fin 128), unitOut n 128 off r0 b L0 L1 x3 x4 L4 arg5 harg5 arg6 harg6 arg14 arg15 arg18
      arg20 arg21 L6 L7 evn nev h1 h4 i0 i1 i6 i5 i18 hin hs u1 u2 u3 u4 u5 u6 u7 u8 (ix2 d j) = ((att K V (qOf X t ht ⟨off + j, by omega⟩)
      (σ ⟨(off + j) / 64, by omega⟩) (t * 64 + (off + j) % 64) d : ℝ) : EReal) := by
    intro d j
    have e : (j : ℕ) % 64 = (off + (j : ℕ)) % 64 := by omega
    rw [← e]
    exact hv d j
  rw [take2 ro hro, hv']
  exact G_emb t (off / 64 + ro / 64) r R C (by omega) ht hR hC e r.isLt d ⟨off + (ro + r), by omega⟩
    (show off + (ro + (r : ℕ)) = (off / 64 + ro / 64) * 64 + r by omega)

/-- A group's rows cut out of a unit of two groups. -/
def cut2 (ro : ℕ) (y : FVec Ideal (D2 128 128) .bf16) (e2 : (D2 128 128).Transposes [1, 0] (D2 128 128))
    (e4 : (D2 64 128).ShapeCasts (D3 1 64 128)) (e3 : (D2 128 128).Slices ![ro, 0] (D2 64 128)) : FVec Ideal (D3 1 64 128) .bf16 :=
  shapeCast (D3 1 64 128) (extractStridedSlice (D2 64 128) ![ro, 0] (transpose (D2 128 128) [1, 0] y e2) e3) e4

/-- A group's rows cut out of a unit of four groups. -/
def cut4 (ro cc : ℕ) (y : FVec Ideal (D2 128 256) .bf16) (e2 : (D2 128 128).Transposes [1, 0] (D2 128 128))
    (e4 : (D2 64 128).ShapeCasts (D3 1 64 128)) (e3 : (D2 128 128).Slices ![ro, 0] (D2 64 128))
    (e1 : (D2 128 256).Slices ![0, cc] (D2 128 128)) : FVec Ideal (D3 1 64 128) .bf16 :=
  shapeCast (D3 1 64 128) (extractStridedSlice (D2 64 128) ![ro, 0] (transpose (D2 128 128) [1, 0]
    (extractStridedSlice (D2 128 128) ![0, cc] y e1) e2) e3) e4

/-- A block of 64 rows and 128 columns of the result. -/
abbrev at64 (R C : ℕ) (e : ∀ a : Fin 3, (![0, R, C] : Fin 3 → ℕ) a + (D3 1 64 128).size a ≤ (D3 1 640 1280).size a)
    (w : FVec Ideal (D3 1 64 128) .bf16) : View.Piece (Elt Ideal) (D3 1 640 1280) .bf16 :=
  ⟨Rect.unit (s := D3 1 640 1280) ![0, R, C] (D3 1 64 128).size e, w⟩

/-- A tile's ten pieces, newest first, are blocks of the result. -/
theorem tile (H : Ready K V ev σ L0 L1 L2 evc x3 x4) (HQ : Filled X t ht b L4) {n : ℕ} (hn : n = 64 * (t + 1)) (r0 R : ℕ)
    {evn : FVec Ideal (D2 n 128) .bf16} {nev : FVec Ideal (D2 n 128) .f32} {nev2 : FVec Ideal (D2 n 256) .f32}
    (hevn : ∀ (i : Fin n) (l : Fin 128), evn (ix2 i l)
      = (((if 70 ≤ (l : ℕ) ∧ (l : ℕ) < 73 then (ev ⟨i, by omega⟩ : ℝ) else 0) : ℝ) : EReal))
    (hnev : ∀ (i : Fin n) (j : Fin 128), nev (ix2 i j) = (((2 : ℝ) ^ (-ev ⟨i, by omega⟩) : ℝ) : EReal))
    (hnev2 : ∀ (i : Fin n) (j : Fin 256), nev2 (ix2 i j) = (((2 : ℝ) ^ (-ev ⟨i, by omega⟩) : ℝ) : EReal))
    {L : List (View.Piece (Elt Ideal) (D3 1 640 1280) .bf16)} (h : View.PiecesOf (G K V X σ) L)
    {La Lb Lc La' Lb' Lc' : List (View.Piece (Elt Ideal) S640x256 .f32)}
    {e2 : (D2 128 128).Transposes [1, 0] (D2 128 128)} {e4 : (D2 64 128).ShapeCasts (D3 1 64 128)}
    {h1 i0 i1 i6 i5 i18 hin hs u1 u2 u3 u4 u5 u6 u7 u8 j5 j18 k5 k18 hin' hs' v1 v2 v3 v4 v5 v6 v7 v8}
    (hr0 : r0 + n = 640 := by decide) (hR : R = t * 64 := by decide)
    (h4 : Shape.Concatenates [D2 n 128, D2 n 128] (D2 n 256) 1 := by decide)
    (e3 : (D2 128 128).Slices ![0, 0] (D2 64 128) := by decide) (e3' : (D2 128 128).Slices ![64, 0] (D2 64 128) := by decide)
    (e1 : (D2 128 256).Slices ![0, 0] (D2 128 128) := by decide) (e1' : (D2 128 256).Slices ![0, 128] (D2 128 128) := by decide) :
    View.PiecesOf (G K V X σ)
      (at64 R 1152 (fits hR ht _ (by decide)) (cut2 64 (unitOut n 128 512 r0 b L0 L1 x3 x4 L4 arg5 harg5 arg6 harg6 arg14 arg15 arg18
        arg20 arg21 La La' evn nev h1 h4 i0 i1 i6 i5 i18 hin hs u1 u2 u3 u4 u5 u6 u7 u8) e2 e4 e3')
      :: at64 R 1024 (fits hR ht _ (by decide)) (cut2 0 (unitOut n 128 512 r0 b L0 L1 x3 x4 L4 arg5 harg5 arg6 harg6 arg14 arg15 arg18
        arg20 arg21 La La' evn nev h1 h4 i0 i1 i6 i5 i18 hin hs u1 u2 u3 u4 u5 u6 u7 u8) e2 e4 e3)
      :: at64 R 896 (fits hR ht _ (by decide)) (cut4 64 128 (unitOut n 256 256 r0 b L0 L1 x3 x4 L4 arg5 harg5 arg6 harg6 arg14 arg15 arg18
        arg20 arg21 Lb Lb' evn nev2 h1 h4 i0 i1 i6 j5 j18 hin' hs' v1 v2 v3 v4 v5 v6 v7 v8) e2 e4 e3' e1')
      :: at64 R 768 (fits hR ht _ (by decide)) (cut4 0 128 (unitOut n 256 256 r0 b L0 L1 x3 x4 L4 arg5 harg5 arg6 harg6 arg14 arg15 arg18
        arg20 arg21 Lb Lb' evn nev2 h1 h4 i0 i1 i6 j5 j18 hin' hs' v1 v2 v3 v4 v5 v6 v7 v8) e2 e4 e3 e1')
      :: at64 R 640 (fits hR ht _ (by decide)) (cut4 64 0 (unitOut n 256 256 r0 b L0 L1 x3 x4 L4 arg5 harg5 arg6 harg6 arg14 arg15 arg18
        arg20 arg21 Lb Lb' evn nev2 h1 h4 i0 i1 i6 j5 j18 hin' hs' v1 v2 v3 v4 v5 v6 v7 v8) e2 e4 e3' e1)
      :: at64 R 512 (fits hR ht _ (by decide)) (cut4 0 0 (unitOut n 256 256 r0 b L0 L1 x3 x4 L4 arg5 harg5 arg6 harg6 arg14 arg15 arg18
        arg20 arg21 Lb Lb' evn nev2 h1 h4 i0 i1 i6 j5 j18 hin' hs' v1 v2 v3 v4 v5 v6 v7 v8) e2 e4 e3 e1)
      :: at64 R 384 (fits hR ht _ (by decide)) (cut4 64 128 (unitOut n 256 0 r0 b L0 L1 x3 x4 L4 arg5 harg5 arg6 harg6 arg14 arg15 arg18
        arg20 arg21 Lc Lc' evn nev2 h1 h4 i0 i1 i6 k5 k18 hin' hs' v1 v2 v3 v4 v5 v6 v7 v8) e2 e4 e3' e1')
      :: at64 R 256 (fits hR ht _ (by decide)) (cut4 0 128 (unitOut n 256 0 r0 b L0 L1 x3 x4 L4 arg5 harg5 arg6 harg6 arg14 arg15 arg18
        arg20 arg21 Lc Lc' evn nev2 h1 h4 i0 i1 i6 k5 k18 hin' hs' v1 v2 v3 v4 v5 v6 v7 v8) e2 e4 e3 e1')
      :: at64 R 128 (fits hR ht _ (by decide)) (cut4 64 0 (unitOut n 256 0 r0 b L0 L1 x3 x4 L4 arg5 harg5 arg6 harg6 arg14 arg15 arg18
        arg20 arg21 Lc Lc' evn nev2 h1 h4 i0 i1 i6 k5 k18 hin' hs' v1 v2 v3 v4 v5 v6 v7 v8) e2 e4 e3' e1)
      :: at64 R 0 (fits hR ht _ (by decide)) (cut4 0 0 (unitOut n 256 0 r0 b L0 L1 x3 x4 L4 arg5 harg5 arg6 harg6 arg14 arg15 arg18
        arg20 arg21 Lc Lc' evn nev2 h1 h4 i0 i1 i6 k5 k18 hin' hs' v1 v2 v3 v4 v5 v6 v7 v8) e2 e4 e3 e1)
      :: L) :=
  ⟨fun x => piece2 H HQ hn 512 r0 64 R 1152 hevn hnev x hr0 rfl (by decide) (.inr rfl) hR rfl e3' (fits hR ht _ (by decide)) h4,
   fun x => piece2 H HQ hn 512 r0 0 R 1024 hevn hnev x hr0 rfl (by decide) (.inl rfl) hR rfl e3 (fits hR ht _ (by decide)) h4,
   fun x => piece4 H HQ hn 256 r0 64 128 R 896 hevn hnev2 x hr0 rfl (by decide) (.inr rfl) (.inr rfl) hR rfl e1' e3' (fits hR ht _ (by decide)) h4,
   fun x => piece4 H HQ hn 256 r0 0 128 R 768 hevn hnev2 x hr0 rfl (by decide) (.inl rfl) (.inr rfl) hR rfl e1' e3 (fits hR ht _ (by decide)) h4,
   fun x => piece4 H HQ hn 256 r0 64 0 R 640 hevn hnev2 x hr0 rfl (by decide) (.inr rfl) (.inl rfl) hR rfl e1 e3' (fits hR ht _ (by decide)) h4,
   fun x => piece4 H HQ hn 256 r0 0 0 R 512 hevn hnev2 x hr0 rfl (by decide) (.inl rfl) (.inl rfl) hR rfl e1 e3 (fits hR ht _ (by decide)) h4,
   fun x => piece4 H HQ hn 0 r0 64 128 R 384 hevn hnev2 x hr0 rfl (by decide) (.inr rfl) (.inr rfl) hR rfl e1' e3' (fits hR ht _ (by decide)) h4,
   fun x => piece4 H HQ hn 0 r0 0 128 R 256 hevn hnev2 x hr0 rfl (by decide) (.inl rfl) (.inr rfl) hR rfl e1' e3 (fits hR ht _ (by decide)) h4,
   fun x => piece4 H HQ hn 0 r0 64 0 R 128 hevn hnev2 x hr0 rfl (by decide) (.inr rfl) (.inl rfl) hR rfl e1 e3' (fits hR ht _ (by decide)) h4,
   fun x => piece4 H HQ hn 0 r0 0 0 R 0 hevn hnev2 x hr0 rfl (by decide) (.inl rfl) (.inl rfl) hR rfl e1 e3 (fits hR ht _ (by decide)) h4,
   h⟩

end

/-! ## The transposed queries -/

section

variable {X : Fin 640 → Fin 1280 → ℝ}

/-- What a column block of the query buffer holds, by the newest store. -/
theorem canon_cols {b : Fin 2} {off : ℕ} (w : FVec Ideal (D3 1 128 128) .bf16) (L : List (View.Piece (Elt Ideal) (D3 2 128 640) .bf16))
    (i : ∀ a : Fin 3, (![(b : ℕ), 0, off] : Fin 3 → ℕ) a + (D3 1 128 128).size a ≤ (D3 2 128 640).size a) (k : Fin 128) (j : Fin 640) :
    View.canon ((⟨Rect.unit (s := D3 2 128 640) ![(b : ℕ), 0, off] (D3 1 128 128).size i, w⟩ : View.Piece (Elt Ideal) _ _) :: L) (ix3 b k j)
      = if h : off ≤ (j : ℕ) ∧ (j : ℕ) < off + 128 then w (ix3 0 k ⟨j - off, by omega⟩) else View.canon L (ix3 b k j) := by
  split
  · rename_i h
    have e := unit_idx3 i 0 k ⟨j - off, by omega⟩ (by simp; omega) (by simp) (by simp; omega)
    have e' : (Rect.unit (s := D3 2 128 640) ![(b : ℕ), 0, off] (D3 1 128 128).size i).emb (ix3 0 k ⟨j - off, by omega⟩) = ix3 b k j := by
      refine Eq.trans e ?_
      congr 1
      · exact Fin.ext (by simp)
      · exact Fin.ext (by simp; omega)
    rw [← e']
    exact View.canon_cons_emb _ _ _ _
  · rename_i h
    refine View.canon_cons_of_not_mem _ _ fun hm => h ?_
    have := (Rect.mem_set_unit (inb := i)).1 hm 2
    exact this

/-- Two groups' queries of the tile at row `R`. -/
abbrev qUnit {arg2 : Memref sig .tc .vmem (D3 1 640 1280) .bf16} (harg2 : arg2.IsWhole) (x0 : Vec Ideal (D3 1 640 1280) .bf16) (R C C' : ℕ)
    (ia : ∀ a : Fin 3, (![0, R, C] : Fin 3 → ℕ) a + (D3 1 64 128).size a ≤ (D3 1 640 1280).size a)
    (ib : ∀ a : Fin 3, (![0, R, C'] : Fin 3 → ℕ) a + (D3 1 64 128).size a ≤ (D3 1 640 1280).size a)
    (h0 : (D3 1 64 128).ShapeCasts (D2 64 128)) (hc : Shape.Concatenates [D2 64 128, D2 64 128] (D2 128 128) 0)
    (ht : (D2 128 128).Transposes [1, 0] (D2 128 128)) (hs : (D2 128 128).ShapeCasts (D3 1 128 128))
    (hr : (D3 4 32 128).Reduces [1] (D2 4 128)) (h1 : (D2 128 128).ShapeCasts (D3 4 32 128))
    (h2 : (D2 4 128).ShapeCasts (D3 4 1 128)) (h3 : (D3 4 1 128).Broadcasts (D3 4 32 128)) (h4 : (D3 4 32 128).ShapeCasts (D2 128 128)) :
    FVec Ideal (D3 1 128 128) .bf16 :=
  qCols (View.readAt (Elt Ideal) arg2.view (Rect.unit (s := D3 1 640 1280) ![0, R, C] (D3 1 64 128).size ia).toLoadRect (harg2.unread x0))
    (View.readAt (Elt Ideal) arg2.view (Rect.unit (s := D3 1 640 1280) ![0, R, C'] (D3 1 64 128).size ib).toLoadRect (harg2.unread x0))
    h0 hc ht hs hr h1 h2 h3 h4

theorem qUnit_apply {arg2 : Memref sig .tc .vmem (D3 1 640 1280) .bf16} (harg2 : arg2.IsWhole) (x0 : Vec Ideal (D3 1 640 1280) .bf16)
    (hx : ∀ q C, x0 (ix3 0 q C) = ((X q C : ℝ) : EReal)) (hX : ∀ q C, |X q C| ≤ bf16Max) (t R C C' : ℕ) (ht10 : t < 10) (hR : R = t * 64)
    (g : ℕ) (hg : g < 5) (hC : C = g * 256) (hC' : C' = g * 256 + 128)
    (ia : ∀ a : Fin 3, (![0, R, C] : Fin 3 → ℕ) a + (D3 1 64 128).size a ≤ (D3 1 640 1280).size a)
    (ib : ∀ a : Fin 3, (![0, R, C'] : Fin 3 → ℕ) a + (D3 1 64 128).size a ≤ (D3 1 640 1280).size a)
    (h0 : (D3 1 64 128).ShapeCasts (D2 64 128)) (hc : Shape.Concatenates [D2 64 128, D2 64 128] (D2 128 128) 0)
    (ht : (D2 128 128).Transposes [1, 0] (D2 128 128)) (hs : (D2 128 128).ShapeCasts (D3 1 128 128))
    (hr : (D3 4 32 128).Reduces [1] (D2 4 128)) (h1 : (D2 128 128).ShapeCasts (D3 4 32 128))
    (h2 : (D2 4 128).ShapeCasts (D3 4 1 128)) (h3 : (D3 4 1 128).Broadcasts (D3 4 32 128)) (h4 : (D3 4 32 128).ShapeCasts (D2 128 128))
    (k j : Fin 128) (J : Fin 640) (hJ : (J : ℕ) = g * 128 + j) :
    qUnit harg2 x0 R C C' ia ib h0 hc ht hs hr h1 h2 h3 h4 (ix3 0 k j) = ((qOf X t ht10 J k : ℝ) : EReal) := by
  refine qCols_apply _ _ h0 hc ht hs hr h1 h2 h3 h4 j (qOf X t ht10 J) (fun hj d => ?_) (fun hj d => ?_) (fun d => hX _ _) k
  · rw [harg2.readAt_unread, unit_idx3 ia 0 _ d (by simp) (by simp; omega) (by omega)]
    refine (hx ⟨R + j % 64, by omega⟩ ⟨C + d, by omega⟩).trans ?_
    have a1 : R + (j : ℕ) % 64 = t * 64 + J % 64 := by omega
    have a2 : C + (d : ℕ) = J / 64 * 128 + d := by omega
    simp only [qOf, a1, a2]
  · rw [harg2.readAt_unread, unit_idx3 ib 0 _ d (by simp) (by simp; omega) (by omega)]
    refine (hx ⟨R + j % 64, by omega⟩ ⟨C' + d, by omega⟩).trans ?_
    have a1 : R + (j : ℕ) % 64 = t * 64 + J % 64 := by omega
    have a2 : C' + (d : ℕ) = J / 64 * 128 + d := by omega
    simp only [qOf, a1, a2]

/-- After a tile's five stores its queries lie in its half of the buffer. -/
theorem filled5 {arg2 : Memref sig .tc .vmem (D3 1 640 1280) .bf16} {harg2 : arg2.IsWhole} {x0 : Vec Ideal (D3 1 640 1280) .bf16}
    (hx : ∀ q C, x0 (ix3 0 q C) = ((X q C : ℝ) : EReal)) (hX : ∀ q C, |X q C| ≤ bf16Max) (t R : ℕ) (ht10 : t < 10) (hR : R = t * 64)
    (b : Fin 2) {L : List (View.Piece (Elt Ideal) (D3 2 128 640) .bf16)}
    {h0 hc ht hs hr h1 h2 h3 h4} :
    Filled X t ht10 b
      (⟨Rect.unit (s := D3 2 128 640) ![(b : ℕ), 0, 512] (D3 1 128 128).size (fitsQ b _ (by decide)),
          qUnit harg2 x0 R 1024 1152 (fits hR ht10 _ (by decide)) (fits hR ht10 _ (by decide)) h0 hc ht hs hr h1 h2 h3 h4⟩
        :: ⟨Rect.unit (s := D3 2 128 640) ![(b : ℕ), 0, 384] (D3 1 128 128).size (fitsQ b _ (by decide)),
          qUnit harg2 x0 R 768 896 (fits hR ht10 _ (by decide)) (fits hR ht10 _ (by decide)) h0 hc ht hs hr h1 h2 h3 h4⟩
        :: ⟨Rect.unit (s := D3 2 128 640) ![(b : ℕ), 0, 256] (D3 1 128 128).size (fitsQ b _ (by decide)),
          qUnit harg2 x0 R 512 640 (fits hR ht10 _ (by decide)) (fits hR ht10 _ (by decide)) h0 hc ht hs hr h1 h2 h3 h4⟩
        :: ⟨Rect.unit (s := D3 2 128 640) ![(b : ℕ), 0, 128] (D3 1 128 128).size (fitsQ b _ (by decide)),
          qUnit harg2 x0 R 256 384 (fits hR ht10 _ (by decide)) (fits hR ht10 _ (by decide)) h0 hc ht hs hr h1 h2 h3 h4⟩
        :: ⟨Rect.unit (s := D3 2 128 640) ![(b : ℕ), 0, 0] (D3 1 128 128).size (fitsQ b _ (by decide)),
          qUnit harg2 x0 R 0 128 (fits hR ht10 _ (by decide)) (fits hR ht10 _ (by decide)) h0 hc ht hs hr h1 h2 h3 h4⟩ :: L) := by
  intro k j
  rw [canon_cols]
  split
  · exact qUnit_apply harg2 x0 hx hX t R 1024 1152 ht10 hR 4 (by decide) rfl rfl _ _ h0 hc ht hs hr h1 h2 h3 h4 k _ j (by simp; omega)
  rw [canon_cols]
  split
  · exact qUnit_apply harg2 x0 hx hX t R 768 896 ht10 hR 3 (by decide) rfl rfl _ _ h0 hc ht hs hr h1 h2 h3 h4 k _ j (by simp; omega)
  rw [canon_cols]
  split
  · exact qUnit_apply harg2 x0 hx hX t R 512 640 ht10 hR 2 (by decide) rfl rfl _ _ h0 hc ht hs hr h1 h2 h3 h4 k _ j (by simp; omega)
  rw [canon_cols]
  split
  · exact qUnit_apply harg2 x0 hx hX t R 256 384 ht10 hR 1 (by decide) rfl rfl _ _ h0 hc ht hs hr h1 h2 h3 h4 k _ j (by simp; omega)
  rw [canon_cols]
  split
  · exact qUnit_apply harg2 x0 hx hX t R 0 128 ht10 hR 0 (by decide) rfl rfl _ _ h0 hc ht hs hr h1 h2 h3 h4 k _ j (by simp)
  · omega

end

end Cert.KernelIdeal.Ker
-- ==== Proof.Ker.Pieces.lean ====
/- What one grid point writes: every piece of its run is a block of the attention of its inputs. -/
module

public import proofs.«01_k».proof.Proof.IdealRun.Frame
import all proofs.«01_k».proof.Proof.IdealRun.Body
public import proofs.«01_k».proof.Proof.Ker.Body

@[expose] public section

set_option maxRecDepth 1000000

noncomputable section

namespace Cert.KernelIdeal.Ker

open Cert.KernelIdeal Idealize.ShloMosaic Cert.KernelIdeal.Gen

section

variable (c : Dev nD)
  (arg2 : Memref sig .tc .vmem S1x640x1280 .bf16) (harg2 : arg2.IsWhole)
  (arg3 : Memref sig .tc .vmem S1x640x128 .bf16) (harg3 : arg3.IsWhole)
  (arg4 : Memref sig .tc .vmem S1x640x128 .bf16) (harg4 : arg4.IsWhole)
  (x0 : Vec Ideal S1x640x1280 .bf16) (x1 x2 : Vec Ideal S1x640x128 .bf16)
  (x3 : Vec Ideal S1x128x640 .bf16) (x4 : Vec Ideal S640x128 .bf16)
  {K V : Fin 640 → Fin 128 → ℝ} {X : Fin 640 → Fin 1280 → ℝ} {σ : Fin 10 → ℝ}

/-- A whole block read at its first axis' one index. -/
theorem read_whole3 {arg : Memref sig .tc .vmem S1x640x128 .bf16} (harg : arg.IsWhole) (x : Vec Ideal S1x640x128 .bf16)
    (s : Fin 640) (d : Fin 128) :
    View.readAt (Elt Ideal) arg.view (Rect.unit (s := S1x640x128) ![0, 0, 0] S1x640x128.size inb_S1x640x128_S1x640x128_0_0_0).toLoadRect
      (harg.unread x) (ix3 0 s d) = x (ix3 0 s d) := by
  rw [harg.readAt_unread]
  refine congrArg x (Eq.trans (unit_idx3 inb_S1x640x128_S1x640x128_0_0_0 0 s d (by simp) (by simp) (by simp)) ?_)
  simp only [zero_add]

/-- The value rows the body reads. -/
abbrev vIn : FVec Ideal (D2 640 128) .f32 :=
  vRows (View.readAt (Elt Ideal) arg4.view (Rect.unit (s := S1x640x128) ![0, 0, 0] S1x640x128.size inb_S1x640x128_S1x640x128_0_0_0).toLoadRect
    (harg4.unread x2)) shapeCasts_S1x640x128_S640x128

/-- Their exponents. -/
abbrev vE : IVec (D2 640 128) 32 :=
  vExp (vIn arg4 harg4 x2) reduces_S640x128_S640 shapeCasts_S640_S640x1 shapeCasts_S640x1_S640x1 broadcasts_S640x1_S640x128

/-- The keys as the body keeps them. -/
abbrev kKept : FVec Ideal (D2 640 128) .bf16 :=
  kRows (View.readAt (Elt Ideal) arg3.view (Rect.unit (s := S1x640x128) ![0, 0, 0] S1x640x128.size inb_S1x640x128_S1x640x128_0_0_0).toLoadRect
      (harg3.unread x1)) shapeCasts_S1x640x128_S640x128 transposes_S640x128_p1_0_S128x640 transposes_S128x640_p1_0_S640x128
    shapeCasts_S640x128_S640x128 reduces_S4x32x640_S4x640 shapeCasts_S128x640_S4x32x640 shapeCasts_S4x640_S4x1x640
    broadcasts_S4x1x640_S4x32x640 shapeCasts_S4x32x640_S128x640

/-- Keys, values, exponents and tables are ready. -/
theorem ready_of (hk : ∀ s d, x1 (ix3 0 s d) = ((K s d : ℝ) : EReal)) (hK : ∀ s d, |K s d| ≤ bf16Max)
    (hv : ∀ s d, x2 (ix3 0 s d) = ((V s d : ℝ) : EReal)) (hV : ∀ s d, |V s d| ≤ bf16Max)
    (h3 : ∀ (l : Fin 128) j, x3 (ix3 0 l j) = ((colTab σ l j : ℝ) : EReal))
    (h4 : ∀ r (l : Fin 128), x4 (ix2 r l) = ((rowTab r l : ℝ) : EReal)) :
    ∃ ev : Fin 640 → ℤ, Ready K V ev σ
      [⟨Rect.unit (s := S640x128) ![0, 0] S640x128.size inb_S640x128_S640x128_0_0, kKept arg3 harg3 x1⟩]
      [⟨Rect.unit (s := S128x640) ![0, 0] S128x640.size inb_S128x640_S128x640_0_0,
        vCodes (vIn arg4 harg4 x2) (vE arg4 harg4 x2) transposes_S640x128_p1_0_S128x640 shapeCasts_S128x640_S128x640⟩]
      [⟨Rect.unit (s := S640x128) ![0, 0] S640x128.size inb_S640x128_S640x128_0_0,
        shapeCast S640x128 (inv2 (vE arg4 harg4 x2)) shapeCasts_S640x128_S640x128⟩]
      (evCols (vE arg4 harg4 x2) iota_S640x128_d1_w32) x3 x4 := by
  have hvr : ∀ s d, vIn arg4 harg4 x2 (ix2 s d) = ((V s d : ℝ) : EReal) := by
    intro s d
    rw [← hv, ← read_whole3 harg4 x2]
    unfold vIn vRows
    generalize View.readAt (Elt Ideal) arg4.view _ _ = y
    pointwise
  choose ev hev using fun s => vExp_val (vIn arg4 harg4 x2) reduces_S640x128_S640 shapeCasts_S640_S640x1 shapeCasts_S640x1_S640x1
    broadcasts_S640x1_S640x128 s (V s) (hvr s) (hV s)
  refine ⟨ev, ⟨fun s k => ?_, fun d s => ?_, fun s l => ?_, fun s => (hev s).1, fun s l => ?_, h3, h4⟩⟩
  · rw [View.canon_cons_unit_lit (S := S640x128) _ _ _ (by decide)]
    exact kRows_apply _ _ _ _ _ _ _ _ _ _ s (K s) (fun d => by rw [read_whole3, hk]) (hK s) k
  · rw [View.canon_cons_unit_lit (S := S128x640) _ _ _ (by decide), vCodes_apply]
    exact ((hev s).2 d).2.2
  · rw [View.canon_cons_unit_lit (S := S640x128) _ _ _ (by decide), shapeCast_self]
    exact ((hev s).2 l).2.1
  · exact evCols_apply _ _ s l (ev s) (hev s).1.1 (hev s).1.2 ((hev s).2 l).1

end

set_option maxHeartbeats 20000000 in
/-- What a grid point writes into its block of the first result. -/
theorem pieces (c : Dev nD) (i : grid0.Coords) (arg2 : Memref sig .tc .vmem S1x640x1280 .bf16) (harg2 : arg2.IsWhole)
    (arg3 : Memref sig .tc .vmem S1x640x128 .bf16) (harg3 : arg3.IsWhole)
    (arg4 : Memref sig .tc .vmem S1x640x128 .bf16) (harg4 : arg4.IsWhole)
    (arg5 : Memref sig .tc .vmem S1x128x640 .bf16) (harg5 : arg5.IsWhole)
    (arg6 : Memref sig .tc .vmem S640x128 .bf16) (harg6 : arg6.IsWhole)
    (arg7 : Memref sig .tc .vmem S1x640x1280 .bf16) (harg7 : arg7.IsWhole)
    (arg8 : Memref sig .tc .vmem S1x10x640x128 .fp8e4m3) (harg8 : arg8.IsWhole)
    (arg9 : Memref sig .tc .vmem S1x10x4x640 .i8) (harg9 : arg9.IsWhole)
    (arg10 : Memref sig .tc .vmem S1x1x640x128 .fp8e4m3) (harg10 : arg10.IsWhole)
    (arg11 : Memref sig .tc .vmem S1x1x4x640 .i8) (harg11 : arg11.IsWhole)
    (arg12 : Memref sig .tc .vmem S1x1x640x128 .fp8e4m3) (harg12 : arg12.IsWhole)
    (arg13 : Memref sig .tc .vmem S1x2x640 .f32) (harg13 : arg13.IsWhole)
    (arg14 : Memref sig .tc .vmem S640x128 .bf16) (harg14 : arg14.IsWhole)
    (arg15 : Memref sig .tc .vmem S128x640 .fp8e4m3) (harg15 : arg15.IsWhole)
    (arg16 : Memref sig .tc .vmem S640x128 .f32) (harg16 : arg16.IsWhole)
    (arg17 : Memref sig .tc .vmem S8x128 .bf16) (harg17 : arg17.IsWhole)
    (arg18 : Memref sig .tc .vmem S2x128x640 .bf16) (harg18 : arg18.IsWhole)
    (arg19 : Memref sig .tc .vmem S5x4x128 .i32) (harg19 : arg19.IsWhole)
    (arg20 : Memref sig .tc .vmem S640x256 .f32) (harg20 : arg20.IsWhole)
    (arg21 : Memref sig .tc .vmem S640x256 .f32) (harg21 : arg21.IsWhole)
    (x0 : Vec Ideal S1x640x1280 .bf16) (x1 x2 : Vec Ideal S1x640x128 .bf16)
    (x3 : Vec Ideal S1x128x640 .bf16) (x4 : Vec Ideal S640x128 .bf16)
    {K V : Fin 640 → Fin 128 → ℝ} {X : Fin 640 → Fin 1280 → ℝ} {σ : Fin 10 → ℝ}
    (hx : ∀ q C, x0 (ix3 0 q C) = ((X q C : ℝ) : EReal)) (hX : ∀ q C, |X q C| ≤ bf16Max)
    (hk : ∀ s d, x1 (ix3 0 s d) = ((K s d : ℝ) : EReal)) (hK : ∀ s d, |K s d| ≤ bf16Max)
    (hv : ∀ s d, x2 (ix3 0 s d) = ((V s d : ℝ) : EReal)) (hV : ∀ s d, |V s d| ≤ bf16Max)
    (h3 : ∀ (l : Fin 128) j, x3 (ix3 0 l j) = ((colTab σ l j : ℝ) : EReal))
    (h4 : ∀ r (l : Fin 128), x4 (ix2 r l) = ((rowTab r l : ℝ) : EReal)) :
    View.PiecesOf (G K V X σ) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4).1 := by
  unfold kernelRun0_A
  dsimp only
  obtain ⟨ev, H⟩ := ready_of arg3 harg3 arg4 harg4 x1 x2 x3 x4 hk hK hv hV h3 h4
  replace H : Ready K V ev σ (kernelRun0_A.sl.HS0_1 c arg3 harg3 x1) (kernelRun0_A.sl.HS1_1 c arg4 harg4 x2)
      (kernelRun0_A.sl.HS2_1 c arg4 harg4 x2) (kernelRun0_A.sl.r_6 c arg4 harg4 x2) x3 x4 := H
  have q9 : Filled X 9 (by decide) 1 (kernelRun0_A.sl.HS4_50 c arg2 harg2 x0) := filled5 (harg2 := harg2) hx hX 9 576 (by decide) rfl 1 (L := (kernelRun0_A.sl.HS4_45 c arg2 harg2 x0))
  have q8 : Filled X 8 (by decide) 0 (kernelRun0_A.sl.HS4_45 c arg2 harg2 x0) := filled5 (harg2 := harg2) hx hX 8 512 (by decide) rfl 0 (L := (kernelRun0_A.sl.HS4_40 c arg2 harg2 x0))
  have q7 : Filled X 7 (by decide) 1 (kernelRun0_A.sl.HS4_40 c arg2 harg2 x0) := filled5 (harg2 := harg2) hx hX 7 448 (by decide) rfl 1 (L := (kernelRun0_A.sl.HS4_35 c arg2 harg2 x0))
  have q6 : Filled X 6 (by decide) 0 (kernelRun0_A.sl.HS4_35 c arg2 harg2 x0) := filled5 (harg2 := harg2) hx hX 6 384 (by decide) rfl 0 (L := (kernelRun0_A.sl.HS4_30 c arg2 harg2 x0))
  have q5 : Filled X 5 (by decide) 1 (kernelRun0_A.sl.HS4_30 c arg2 harg2 x0) := filled5 (harg2 := harg2) hx hX 5 320 (by decide) rfl 1 (L := (kernelRun0_A.sl.HS4_25 c arg2 harg2 x0))
  have q4 : Filled X 4 (by decide) 0 (kernelRun0_A.sl.HS4_25 c arg2 harg2 x0) := filled5 (harg2 := harg2) hx hX 4 256 (by decide) rfl 0 (L := (kernelRun0_A.sl.HS4_20 c arg2 harg2 x0))
  have q3 : Filled X 3 (by decide) 1 (kernelRun0_A.sl.HS4_20 c arg2 harg2 x0) := filled5 (harg2 := harg2) hx hX 3 192 (by decide) rfl 1 (L := (kernelRun0_A.sl.HS4_15 c arg2 harg2 x0))
  have q2 : Filled X 2 (by decide) 0 (kernelRun0_A.sl.HS4_15 c arg2 harg2 x0) := filled5 (harg2 := harg2) hx hX 2 128 (by decide) rfl 0 (L := (kernelRun0_A.sl.HS4_10 c arg2 harg2 x0))
  have q1 : Filled X 1 (by decide) 1 (kernelRun0_A.sl.HS4_10 c arg2 harg2 x0) := filled5 (harg2 := harg2) hx hX 1 64 (by decide) rfl 1 (L := (kernelRun0_A.sl.HS4_5 c arg2 harg2 x0))
  have q0 : Filled X 0 (by decide) 0 (kernelRun0_A.sl.HS4_5 c arg2 harg2 x0) := filled5 (harg2 := harg2) hx hX 0 0 (by decide) rfl 0 (L := [])
  refine tile H q9 (n := 640) rfl 0 576 H.hevc (H.one (by decide)) (H.pair (by decide)) ?_
  refine tile H q8 (n := 576) rfl 64 512 (H.slice (by decide)) (H.one (by decide)) (H.pair (by decide)) ?_
  refine tile H q7 (n := 512) rfl 128 448 (H.slice (by decide)) (H.one (by decide)) (H.pair (by decide)) ?_
  refine tile H q6 (n := 448) rfl 192 384 (H.slice (by decide)) (H.one (by decide)) (H.pair (by decide)) ?_
  refine tile H q5 (n := 384) rfl 256 320 (H.slice (by decide)) (H.one (by decide)) (H.pair (by decide)) ?_
  refine tile H q4 (n := 320) rfl 320 256 (H.slice (by decide)) (H.one (by decide)) (H.pair (by decide)) ?_
  refine tile H q3 (n := 256) rfl 384 192 (H.slice (by decide)) (H.one (by decide)) (H.pair (by decide)) ?_
  refine tile H q2 (n := 192) rfl 448 128 (H.slice (by decide)) (H.one (by decide)) (H.pair (by decide)) ?_
  refine tile H q1 (n := 128) rfl 512 64 (H.slice (by decide)) (H.one (by decide)) (H.pair (by decide)) ?_
  refine tile H q0 (n := 64) rfl 576 0 (H.slice (by decide)) (H.one (by decide)) (H.pair (by decide)) ?_
  exact trivial

end Cert.KernelIdeal.Ker
-- ==== Proof.Ref.Scale.lean ====
/- The reference's quantiser, one group of elements at a time: its scale is a positive power of two under which no element of the
   group leaves the clip, so quantising and scaling back is the identity on the reals. -/
module

public import proofs.«01_k».proof.Proof.Gen.ReferenceIdeal.Read
public import proofs.«01_k».proof.Proof.Ker.Scalar
public import Idealize.ShloMosaic.Lib.KernelVsHost

@[expose] public section

noncomputable section

namespace Cert.ReferenceIdeal.Att

open Cert.ReferenceIdeal Cert.ReferenceIdeal.Gen Idealize.ShloMosaic Cert.KernelIdeal.Ker

/-- The exponent the reference takes for a group whose largest magnitude is `M`. -/
def expo (M : EReal) : EReal :=
  Scalar.select (FloatOps.cmpf (F := Ideal) (φ := .f32) .oeq M (FloatOps.ofBits .f32 0x00000000#32)) (FloatOps.ofBits (F := Ideal) .f32 0x00000000#32)
    (FloatOps.addf (F := Ideal) (φ := .f32)
      (FloatOps.hostUnary .floor (FloatOps.hostDivf
        (FloatOps.hostUnary .log (FloatOps.mulf M (FloatOps.ofBits .f32 0x3B124925#32)))
        (FloatOps.hostUnary .log (FloatOps.ofBits .f32 0x40000000#32))))
      (FloatOps.ofBits .f32 0x3F800000#32))

theorem ofBits_two : Ideal.ofBits .f32 0x40000000#32 = ((2 : ℝ) : EReal) := by
  simp [Ideal.ofBits, Ideal.ieee]; norm_num [← EReal.coe_mul]

theorem ofBits_one : Ideal.ofBits .f32 0x3F800000#32 = ((1 : ℝ) : EReal) := by
  simp [Ideal.ofBits, Ideal.ieee]; norm_num [← EReal.coe_mul]

/-- The exponent is a real number. -/
theorem expo_real (m : ℝ) (hm : 0 ≤ m) : ∃ e : ℝ, expo (m : EReal) = (e : EReal) ∧ m * (Real.rpow 2 e)⁻¹ ≤ 448 := by
  rcases hm.eq_or_lt with h | h
  · refine ⟨0, ?_, by subst h; norm_num⟩
    subst h
    unfold expo
    have : FloatOps.cmpf (F := Ideal) (φ := .f32) .oeq ((0 : ℝ) : EReal) (FloatOps.ofBits .f32 0x00000000#32) = 1#1 := by
      simp [FloatOps.cmpf, Ideal.cmp, Ideal.ofBits_zero_f32]
    rw [this]
    exact Ideal.ofBits_zero_f32
  · refine ⟨(⌊Real.log (m * inv448) / Real.log 2⌋ : ℝ) + 1, ?_, ?_⟩
    · unfold expo
      have h1 : FloatOps.cmpf (F := Ideal) (φ := .f32) .oeq (m : EReal) (FloatOps.ofBits .f32 0x00000000#32) = 0#1 := by
        simp [FloatOps.cmpf, Ideal.cmp, Ideal.ofBits_zero_f32, h.ne']
      have h2 : FloatOps.hostUnary (F := Ideal) (φ := .f32) .log (FloatOps.mulf (m : EReal) (FloatOps.ofBits .f32 0x3B124925#32))
          = ((Real.log (m * inv448) : ℝ) : EReal) := by
        show Ideal.log ((m : EReal) * Ideal.ofBits .f32 0x3B124925#32) = _
        rw [ofBits_inv448, ← EReal.coe_mul]
        show (if m * inv448 ≤ 0 then (⊥ : EReal) else _) = _
        rw [if_neg (not_le.mpr (mul_pos h inv448_pos))]
      have h3 : FloatOps.hostUnary (F := Ideal) (φ := .f32) .log (FloatOps.ofBits .f32 0x40000000#32) = ((Real.log 2 : ℝ) : EReal) := by
        show Ideal.log (Ideal.ofBits .f32 0x40000000#32) = _
        rw [ofBits_two]
        show (if (2 : ℝ) ≤ 0 then (⊥ : EReal) else _) = _
        rw [if_neg (by norm_num)]
      rw [h1, h2, h3]
      show Ideal.liftRound Int.floor (Ideal.div ((Real.log (m * inv448) : ℝ) : EReal) ((Real.log 2 : ℝ) : EReal)) + Ideal.ofBits .f32 0x3F800000#32 = _
      rw [ofBits_one, Ideal.div_coe (Real.log_pos one_lt_two).ne', ← EReal.coe_mul, mul_one_div]
      show (((⌊Real.log (m * inv448) / Real.log 2⌋ : ℤ) : ℝ) : EReal) + _ = _
      rw [EReal.coe_add]
    · have h2 : m * inv448 ≤ Real.rpow 2 ((⌊Real.log (m * inv448) / Real.log 2⌋ : ℝ) + 1) := by
        have hp := mul_pos h inv448_pos
        have : m * inv448 = Real.rpow 2 (Real.log (m * inv448) / Real.log 2) := by
          change _ = (2 : ℝ) ^ (Real.log (m * inv448) / Real.log 2)
          rw [Real.rpow_def_of_pos (by norm_num), mul_div_cancel₀ _ (Real.log_pos (by norm_num)).ne', Real.exp_log hp]
        rw [this]
        exact Real.rpow_le_rpow_of_exponent_le (by norm_num) (by rw [← this]; exact (Int.lt_floor_add_one _).le)
      have h3 : 0 < Real.rpow 2 ((⌊Real.log (m * inv448) / Real.log 2⌋ : ℝ) + 1) := Real.rpow_pos_of_pos (by norm_num) _
      rw [← div_eq_mul_inv, div_le_iff₀ h3]
      calc m ≤ 448 * (m * inv448) := by unfold inv448; nlinarith
        _ ≤ _ := by linarith

/-- The scale of a group and its inverse. -/
theorem expo_val (m : ℝ) (hm : 0 ≤ m) : ∃ p : ℝ, 0 < p ∧ m * p⁻¹ ≤ 448
    ∧ FloatOps.hostPowf (F := Ideal) (φ := .f32) (FloatOps.ofBits .f32 0x40000000#32) (expo (m : EReal)) = (p : EReal)
    ∧ FloatOps.hostPowf (F := Ideal) (φ := .f32) (FloatOps.ofBits .f32 0x40000000#32) (FloatOps.hostNegf (expo (m : EReal))) = ((p⁻¹ : ℝ) : EReal) := by
  obtain ⟨e, he, h⟩ := expo_real m hm
  refine ⟨Real.rpow 2 e, Real.rpow_pos_of_pos (by norm_num) _, h, ?_, ?_⟩
  · rw [he]
    show Ideal.pow (Ideal.ofBits .f32 0x40000000#32) _ = _
    rw [ofBits_two]; rfl
  · rw [he]
    show Ideal.pow (Ideal.ofBits .f32 0x40000000#32) (-(e : EReal)) = _
    rw [ofBits_two, ← EReal.coe_neg, Ideal.pow_coe_coe]
    congr 1
    exact Real.rpow_neg (by norm_num) e

/-- The largest of finitely many magnitudes is a real number no smaller than any of them. -/
theorem fold_abs_real {n : ℕ} (hn : 0 < n) (f : Fin n → EReal) (R : Fin n → ℝ) (h : ∀ i, f i = ((|R i| : ℝ) : EReal)) :
    ∃ r : ℝ, Finset.univ.fold max ⊥ f = (r : EReal) ∧ 0 ≤ r ∧ ∀ i, |R i| ≤ r := by
  obtain ⟨r, h1, h2, i, h3⟩ := fold_max_real f (fun i => by rw [h]; exact EReal.coe_ne_top _)
    ⟨⟨0, hn⟩, by rw [h]; exact EReal.coe_ne_bot _⟩
  rw [h, EReal.coe_eq_coe_iff] at h3
  refine ⟨r, h1, h3 ▸ abs_nonneg _, fun i => ?_⟩
  have := h2 i
  rw [h] at this
  exact_mod_cast this

theorem abs_coe' (x : ℝ) : FloatOps.absf (F := Ideal) (φ := .f32) (x : EReal) = ((|x| : ℝ) : EReal) := by
  show max (x : EReal) (-(x : EReal)) = _
  rw [← EReal.coe_neg, abs]
  exact (EReal.coe_strictMono.monotone.map_max (a := x) (b := -x)).symm

/-- The reference's maximum over one axis. -/
theorem hostMax {s t : Shape} {a : Fin s.rank} (x : FVec Ideal s .f32) (h' : s.ReducesTo [a] t) (hu : 0 < S_.numel)
    (h : s.Reduces [a] t) (j : t.Idx) :
    Host.reduce FloatOps.maximumf x (constant (F := Ideal) S_ .f32 0xFF800000#32) h' hu j
      = Finset.univ.fold max ⊥ fun k => x (h.lift j k) := by
  rw [hostReduce_maximumf_eq_multiReduction x 0xFF800000#32 h' hu h (.inl rfl) rfl]
  refine (Ideal.multiReduction_maximumf_single x _ h (.inl rfl) rfl j).trans ?_
  show Finset.univ.fold max (Ideal.ofBits .f32 0xFF800000#32) _ = _
  rw [ofBits_neg_inf_f32]
  rfl

/-- The source index over a result index, when the reduced axis is the last. -/
theorem lift_last {s t : Shape} {a : Fin s.rank} (h : s.Reduces [a] t) (ha : a.val + 1 = s.rank) (j : t.Idx) (i : s.Idx)
    (hj : ∀ c : Fin t.rank, (j c).val = (i ⟨c.val, by have := h.rank_single; have := c.isLt; omega⟩).val) : h.lift j (i a) = i := by
  funext c
  refine Fin.ext ?_
  rw [h.lift_val]
  unfold Shape.Reduces.liftVal
  split
  · next hc => rw [show a = c from Fin.ext hc.symm]
  · next hc =>
    rw [dif_pos (by have := c.isLt; omega)]
    exact hj _

/-- An element of a group, divided by the group's scale: the clip leaves it alone. -/
theorem scaled_clip {x m p : ℝ} (hx : |x| ≤ m) (hp : 0 < p) (h : m * p⁻¹ ≤ 448) :
    FloatOps.minimumf (F := Ideal) (φ := .f32) (FloatOps.ofBits .f32 0x43E00000#32) (FloatOps.maximumf (FloatOps.ofBits .f32 0xC3E00000#32)
      (FloatOps.mulf (x : EReal) ((p⁻¹ : ℝ) : EReal))) = ((x * p⁻¹ : ℝ) : EReal) := by
  show min (Ideal.ofBits .f32 0x43E00000#32) (max (Ideal.ofBits .f32 0xC3E00000#32) ((x : EReal) * ((p⁻¹ : ℝ) : EReal))) = _
  rw [← EReal.coe_mul]
  exact clip_coe _ (scaled_le hx (inv_pos.mpr hp) h)

end Cert.ReferenceIdeal.Att
-- ==== Proof.Ref.Slope.lean ====
/- The ALiBi slopes the reference uses. -/
module

public import proofs.«01_k».proof.Proof.Ref.Scale
public import Idealize.ShloMosaic.Lib.Pointwise.IndexVar

@[expose] public section

noncomputable section

namespace Cert.ReferenceIdeal.Att

open Cert.ReferenceIdeal Cert.ReferenceIdeal.Gen Idealize.ShloMosaic Cert.ReferenceIdeal.Read Cert.KernelIdeal.Ker

/-- The number of head `h` in the sequence the slopes are the powers of. -/
def headNo (h : ℕ) : ℕ := if h < 16 then 2 * h + 2 else 2 * h - 31

/-- The ALiBi slope of head `h`. -/
def slope (h : ℕ) : ℝ := Real.rpow 2 (-(1 / 4) * (headNo h : ℝ))

theorem ofBits_neg_quarter : Ideal.ofBits .f32 0xBE800000#32 = ((-(1 / 4) : ℝ) : EReal) := by
  simp [Ideal.ofBits, Ideal.ieee, -EReal.coe_mul]; norm_num

/-- The power sequence the slopes are taken from. -/
theorem v101_at (n : Fin 32) : (val_main_v101 (F := Ideal) (ix1 n) : EReal) = ((Real.rpow 2 (-(1 / 4) * ((n : ℕ) + 1 : ℝ)) : ℝ) : EReal) := by
  have h : (val_main_v95 (F := Ideal) (ix1 n) : EReal) = (((n : ℕ) : ℝ) : EReal) := by
    show (((BitVec.ofNat 32 n).toInt : ℝ) : EReal) = _
    rw [show (BitVec.ofNat 32 (n : ℕ)).toInt = ((n : ℕ) : ℤ) by rw [BitVec.toInt_eq_toNat_of_lt] <;> simp [BitVec.toNat_ofNat] <;> omega]
    norm_cast
  rw [val_main_v101_apply, val_main_v100_apply, val_main_cst_31_apply, val_main_v99_apply, val_main_v98_apply, val_main_cst_30_apply,
    val_main_v97_apply, val_main_v96_apply, val_main_cst_29_apply, h]
  show Ideal.pow (Ideal.ofBits .f32 0x40000000#32) (Ideal.ofBits .f32 0xBE800000#32 * (Ideal.ofBits .f32 0x3F800000#32 + (((n : ℕ) : ℝ) : EReal))) = _
  rw [ofBits_two, ofBits_one, ofBits_neg_quarter, ← EReal.coe_add, ← EReal.coe_mul, add_comm (1 : ℝ)]
  rfl

/-- The slope of query head `g` of key-value head `κ`. -/
theorem v106_at (κ : Fin 2) (g : Fin 10) :
    (val_main_v106 (F := Ideal) (ix2 κ g) : EReal) = ((slope ((κ : ℕ) * 10 + g) : ℝ) : EReal) := by
  have hh : (κ : ℕ) * 10 + g < 20 := by omega
  have e : idx_main_v105 (idx_main_v106 (ix2 κ g)) = (ix1 ⟨(κ : ℕ) * 10 + g, by omega⟩ : S32.Idx) := by
    funext a; match a with | ⟨0, _⟩ => rfl
  rw [val_main_v106_apply, val_main_v105_apply, e]
  unfold slope headNo
  have h1 : val_main_v104 (F := Ideal) (ix1 ⟨(κ : ℕ) * 10 + g, by omega⟩)
      = if h : (κ : ℕ) * 10 + g < 16 then val_main_v101 (F := Ideal) (ix1 ⟨1 + 2 * ((κ : ℕ) * 10 + g), by omega⟩)
        else val_main_v101 (F := Ideal) (ix1 ⟨2 * ((κ : ℕ) * 10 + g - 16), by omega⟩) := by
    pointwise [val_main_v104, val_main_v103, val_main_v102]
  rw [h1]
  by_cases h : (κ : ℕ) * 10 + g < 16
  · rw [dif_pos h, v101_at, if_pos h]
    congr 3
    push_cast; ring
  · rw [dif_neg h, v101_at, if_neg h]
    congr 3
    have : 2 * ((κ : ℕ) * 10 + g) - 31 = 2 * ((κ : ℕ) * 10 + g - 16) + 1 := by omega
    rw [this]
    push_cast; ring

end Cert.ReferenceIdeal.Att
-- ==== Proof.Ker.Tables.lean ====
/- The bias tables the kernel is launched on, an element at a time. -/
module

public import proofs.«01_k».proof.Proof.Gen.KernelIdeal.Frame
public import Idealize.ShloMosaic.Lib.StableHlo.ReadAt
public import proofs.«01_k».proof.Proof.Ker.Body
public import proofs.«01_k».proof.Proof.Ref.Slope

@[expose] public section

set_option maxRecDepth 1000000

noncomputable section

namespace Cert.KernelIdeal.Ker

open Cert.KernelIdeal Cert.KernelIdeal.Gen Idealize.ShloMosaic Idealize.ShloMosaic.TcCoe
open Cert.ReferenceIdeal.Att (headNo ofBits_neg_quarter ofBits_two ofBits_one)

/-! ## Small words -/

theorem toInt_nat (n : ℕ) (h : n < 2147483648) : (BitVec.ofNat 32 n).toInt = (n : ℤ) := by
  rw [BitVec.toInt_eq_toNat_of_lt] <;> rw [BitVec.toNat_ofNat] <;> omega

theorem cmpi_eq_nat (a b : ℕ) (ha : a < 2147483648) (hb : b < 2147483648) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have : BitVec.ofNat 32 a ≠ BitVec.ofNat 32 b := fun e => h (by
      have := congrArg BitVec.toInt e
      rw [toInt_nat a ha, toInt_nat b hb] at this
      omega)
    rw [if_neg h, beq_eq_false_iff_ne.mpr this]; rfl

theorem slt_nat (a b : ℕ) (ha : a < 2147483648) (hb : b < 2147483648) :
    (BitVec.ofNat 32 a).slt (BitVec.ofNat 32 b) = decide (a < b) := by
  unfold BitVec.slt
  rw [toInt_nat a ha, toInt_nat b hb]
  simp

theorem cmpi_slt_nat (a b : ℕ) (ha : a < 2147483648) (hb : b < 2147483648) :
    IntOp.cmpi .slt (BitVec.ofNat 32 a) (BitVec.ofNat 32 b) = if a < b then 1#1 else 0#1 := by
  show BitVec.ofBool ((BitVec.ofNat 32 a).slt (BitVec.ofNat 32 b)) = _
  rw [slt_nat a b ha hb]
  by_cases h : a < b <;> simp [h]

theorem cmpi_sgt_nat (a b : ℕ) (ha : a < 2147483648) (hb : b < 2147483648) :
    IntOp.cmpi .sgt (BitVec.ofNat 32 a) (BitVec.ofNat 32 b) = if b < a then 1#1 else 0#1 := by
  show BitVec.ofBool ((BitVec.ofNat 32 b).slt (BitVec.ofNat 32 a)) = _
  rw [slt_nat b a hb ha]
  by_cases h : b < a <;> simp [h]

theorem cmpi_sge_nat (a b : ℕ) (ha : a < 2147483648) (hb : b < 2147483648) :
    IntOp.cmpi .sge (BitVec.ofNat 32 a) (BitVec.ofNat 32 b) = if b ≤ a then 1#1 else 0#1 := by
  show BitVec.ofBool ((BitVec.ofNat 32 b).sle (BitVec.ofNat 32 a)) = _
  unfold BitVec.sle
  rw [toInt_nat a ha, toInt_nat b hb]
  by_cases h : b ≤ a <;> simp [h]

theorem andi_ite (p q : Prop) [Decidable p] [Decidable q] :
    IntOp.andi (if p then 1#1 else 0#1) (if q then 1#1 else 0#1) = if p ∧ q then 1#1 else 0#1 := by
  by_cases hp : p <;> by_cases hq : q <;> simp only [hp, hq, if_true, if_false, and_true, and_false, true_and, false_and] <;> rfl

theorem ori_ite (p q : Prop) [Decidable p] [Decidable q] :
    IntOp.ori (if p then 1#1 else 0#1) (if q then 1#1 else 0#1) = if p ∨ q then 1#1 else 0#1 := by
  by_cases hp : p <;> by_cases hq : q <;> simp only [hp, hq, if_true, if_false, or_true, or_false, true_or, false_or] <;> rfl

theorem select_ite (p : Prop) [Decidable p] {α : Type} (x y : α) : Scalar.select (if p then 1#1 else 0#1) x y = if p then x else y := by
  by_cases hp : p
  · rw [if_pos hp, if_pos hp]; rfl
  · rw [if_neg hp, if_neg hp]; rfl

theorem sitofp_nat (n : ℕ) (h : n < 2147483648) : FloatOps.sitofp (F := Ideal) .f32 (BitVec.ofNat 32 n) = ((n : ℝ) : EReal) := by
  show (((BitVec.ofNat 32 n).toInt : ℝ) : EReal) = _
  rw [toInt_nat n h]
  norm_cast

theorem tileWord : ∀ t : Fin 10, (IntOp.muli (IntOp.subi (BitVec.ofNat 32 (t : ℕ)) 9#32) 64#32).toInt = ((t : ℕ) - 9 : ℤ) * 64 := by decide

theorem sitofp_tile (t : ℕ) (h : t < 10) :
    FloatOps.sitofp (F := Ideal) .f32 (IntOp.muli (IntOp.subi (BitVec.ofNat 32 t) 9#32) 64#32) = (((t : ℝ) - 9) * 64 : ℝ) := by
  show (((IntOp.muli (IntOp.subi (BitVec.ofNat 32 t) 9#32) 64#32).toInt : ℝ) : EReal) = _
  rw [tileWord ⟨t, h⟩]
  push_cast
  rfl

/-- The number of a head, as the table's words compute it. -/
def headWord (κ g : ℕ) : BitVec 32 :=
  Scalar.select (IntOp.cmpi .slt (IntOp.addi (IntOp.muli (BitVec.ofNat 32 κ) 10#32) (BitVec.ofNat 32 g)) 16#32)
    (IntOp.addi (IntOp.muli 2#32 (IntOp.addi (IntOp.muli (BitVec.ofNat 32 κ) 10#32) (BitVec.ofNat 32 g))) 2#32)
    (IntOp.subi (IntOp.muli 2#32 (IntOp.addi (IntOp.muli (BitVec.ofNat 32 κ) 10#32) (BitVec.ofNat 32 g))) 31#32)

theorem headWord_val : ∀ (κ : Fin 2) (g : Fin 10), (headWord κ g).toInt = (headNo ((κ : ℕ) * 10 + g) : ℤ) := by decide

theorem slope_val (κ : Fin 2) (g : ℕ) (hg : g < 10) :
    Ideal.pow (Ideal.ofBits .f32 0x40000000#32) (Ideal.ofBits .f32 0xBE800000#32 * FloatOps.sitofp (F := Ideal) .f32 (headWord κ g))
      = ((ReferenceIdeal.Att.slope ((κ : ℕ) * 10 + g) : ℝ) : EReal) := by
  have : (FloatOps.sitofp (F := Ideal) .f32 (headWord κ g) : EReal) = ((headNo ((κ : ℕ) * 10 + g) : ℝ) : EReal) := by
    show (((headWord κ g).toInt : ℝ) : EReal) = _
    rw [headWord_val κ ⟨g, hg⟩]
    norm_cast
  rw [this, ofBits_two, ofBits_neg_quarter, ← EReal.coe_mul]
  rfl

theorem ofBits_128 : Ideal.ofBits .f32 0x43000000#32 = ((128 : ℝ) : EReal) := by
  simp [Ideal.ofBits, Ideal.ieee, -EReal.coe_mul]; norm_num

theorem sqrt_128 : Ideal.sqrt (Ideal.ofBits .f32 0x43000000#32) = ((Real.sqrt 128 : ℝ) : EReal) := by
  rw [ofBits_128, Ideal.sqrt_coe, if_neg (by norm_num)]

theorem log_two : Ideal.log (Ideal.ofBits .f32 0x40000000#32) = ((Real.log 2 : ℝ) : EReal) := by
  rw [ofBits_two]
  show (if (2 : ℝ) ≤ 0 then (⊥ : EReal) else _) = _
  rw [if_neg (by norm_num)]

/-! ## The tables -/

variable (m : (ℓ : Loc nD τ sig) → Buf (Elt Ideal) ℓ)

set_option maxHeartbeats 20000000 in
/-- The table of bias columns. -/
theorem lhs_read (c : Dev nD) (r : Fin 640) (l : Fin 128) :
    (V (F := Ideal) m c main_v110 : S640x128.Idx → EReal) (ix2 r l) = ((rowTab r l : ℝ) : EReal) := by
  have e : (V (F := Ideal) m c main_v110 : S640x128.Idx → EReal) (ix2 r l)
      = if 67 ≤ (l : ℕ) ∧ (l : ℕ) < 70 then ((((((r : ℕ) / 64 : ℕ) : ℝ) - 9) * 64 : ℝ) : EReal)
        else if 64 ≤ (l : ℕ) ∧ (l : ℕ) < 67 then (((((r : ℕ) % 64 : ℕ) : ℝ)) : EReal)
        else if (r : ℕ) / 64 = 9 ∧ (r : ℕ) % 64 = l then ((1 : ℝ) : EReal) else ((0 : ℝ) : EReal) := by
    unfold V
    after_reads_at
    simp only [id_eq]
    pointwise
    simp (disch := omega) only [cmpi_sge_nat, cmpi_slt_nat, cmpi_eq_nat, andi_ite, select_ite, sitofp_nat, sitofp_tile, EReal.coe_one, EReal.coe_zero]
  rw [e]
  unfold rowTab
  have hr := r.isLt
  have hm : (r : ℕ) % 64 < 64 := Nat.mod_lt _ (by norm_num)
  by_cases h1 : 67 ≤ (l : ℕ) ∧ (l : ℕ) < 70
  · rw [if_pos h1, if_neg (by omega), if_neg (by omega), if_pos (by omega)]
  · rw [if_neg h1]
    by_cases h2 : 64 ≤ (l : ℕ) ∧ (l : ℕ) < 67
    · rw [if_pos h2, if_neg (by omega), if_pos (by omega)]
    · rw [if_neg h2]
      by_cases h3 : (l : ℕ) < 64
      · rw [if_pos h3]
        split_ifs <;> rfl
      · rw [if_neg h3, if_neg (by omega), if_neg (by omega), if_neg (by omega)]

set_option maxHeartbeats 20000000 in
/-- The table of bias rows. -/
theorem rhs_read (c : Dev nD) (κ : Fin 2) (l : Fin 128) (j : Fin 640) :
    (V (F := Ideal) m c main_v82 : S2x128x640.Idx → EReal) (ix3 κ l j)
      = ((colTab (fun g => ReferenceIdeal.Att.slope ((κ : ℕ) * 10 + g)) l j : ℝ) : EReal) := by
  have hp := slope_val κ ((j : ℕ) / 64) (by omega)
  unfold headWord at hp
  have e : (V (F := Ideal) m c main_v82 : S2x128x640.Idx → EReal) (ix3 κ l j)
      = if 73 ≤ (l : ℕ) then ((0 : ℝ) : EReal)
        else if (l : ℕ) = 72 then ((0 : ℝ) : EReal)
        else if (l : ℕ) = 71 then ((0 : ℝ) : EReal)
        else if (l : ℕ) = 70 then ((Real.sqrt 128 * Real.log 2 : ℝ) : EReal)
        else if (l : ℕ) = 66 ∨ (l : ℕ) = 69 then ((0 : ℝ) : EReal)
        else if (l : ℕ) = 65 ∨ (l : ℕ) = 68 then ((0 : ℝ) : EReal)
        else if (l : ℕ) = 64 ∨ (l : ℕ) = 67 then ((ReferenceIdeal.Att.slope ((κ : ℕ) * 10 + (j : ℕ) / 64) * Real.sqrt 128 : ℝ) : EReal)
        else if (j : ℕ) % 64 < l then ((1 : ℝ) : EReal) else ((0 : ℝ) : EReal) := by
    unfold V
    after_reads_at
    simp only [id_eq]
    pointwise
    simp only [hp]
    simp (disch := omega) only [cmpi_sge_nat, cmpi_slt_nat, cmpi_eq_nat, cmpi_sgt_nat, ori_ite, select_ite]
    simp only [sqrt_128, log_two, ← EReal.coe_mul, ← EReal.coe_sub, sub_self, EReal.coe_one, EReal.coe_zero, sub_zero]
  rw [e]
  unfold colTab
  by_cases h0 : (l : ℕ) < 64
  · rw [if_pos h0, if_neg (by omega), if_neg (by omega), if_neg (by omega), if_neg (by omega), if_neg (by omega), if_neg (by omega),
      if_neg (by omega)]
    split_ifs <;> rfl
  · rw [if_neg h0]
    by_cases h1 : (l : ℕ) = 64 ∨ (l : ℕ) = 67
    · rw [if_pos h1, if_neg (by omega), if_neg (by omega), if_neg (by omega), if_neg (by omega), if_neg (by omega), if_neg (by omega),
        if_pos h1]
    · rw [if_neg h1]
      by_cases h2 : (l : ℕ) = 70
      · rw [if_pos h2, if_neg (by omega), if_neg (by omega), if_neg (by omega), if_pos h2, if_neg h1]
      · split_ifs <;> first | rfl | omega

end Cert.KernelIdeal.Ker
-- ==== Proof.Ker.Blocks.lean ====
/- The blocks the kernel's windows stage, an element at a time. -/
module

public import proofs.«01_k».proof.Proof.Gen.KernelIdeal.Frame
public import proofs.«01_k».proof.Proof.Ker.Tables
public import Idealize.ShloMosaic.Lib.Pipeline.ValueKit

@[expose] public section

set_option maxRecDepth 1000000

noncomputable section

namespace Cert.KernelIdeal.Ker

open Cert.KernelIdeal Cert.KernelIdeal.Gen Idealize.ShloMosaic Idealize.ShloMosaic.TcCoe

/-- The batch a grid point works on. -/
def bOf (t : Fin cfg0.N) : Fin 3 := ⟨(t : ℕ) / 2, by have : (t : ℕ) < 6 := t.isLt; omega⟩
/-- The key-value head a grid point works on. -/
def kOfPt (t : Fin cfg0.N) : Fin 2 := ⟨(t : ℕ) % 2, Nat.mod_lt _ (by norm_num)⟩

/-- Window 0's block index at a grid point. -/
theorem index0 : ∀ t : Fin cfg0.N, win0_0.index t = ![(bOf t : ℕ), 0, (kOfPt t : ℕ)] :=
  (by decide +kernel : ∀ t : Fin grid0.N, win0_0.index t = ![(bOf t : ℕ), 0, (kOfPt t : ℕ)])

/-- Window 1's block index at a grid point. -/
theorem index1 : ∀ t : Fin cfg0.N, win0_1.index t = ![(bOf t : ℕ), 0, (kOfPt t : ℕ)] :=
  (by decide +kernel : ∀ t : Fin grid0.N, win0_1.index t = ![(bOf t : ℕ), 0, (kOfPt t : ℕ)])

/-- Window 2's block index at a grid point. -/
theorem index2 : ∀ t : Fin cfg0.N, win0_2.index t = ![(bOf t : ℕ), 0, (kOfPt t : ℕ)] :=
  (by decide +kernel : ∀ t : Fin grid0.N, win0_2.index t = ![(bOf t : ℕ), 0, (kOfPt t : ℕ)])

/-- Window 3's block index at a grid point. -/
theorem index3 : ∀ t : Fin cfg0.N, win0_3.index t = ![(kOfPt t : ℕ), 0, 0] :=
  (by decide +kernel : ∀ t : Fin grid0.N, win0_3.index t = ![(kOfPt t : ℕ), 0, 0])

/-- Window 4's block index at a grid point. -/
theorem index4 : ∀ t : Fin cfg0.N, win0_4.index t = ![0, 0] :=
  (by decide +kernel : ∀ t : Fin grid0.N, win0_4.index t = ![0, 0])

/-- Window 5's block index at a grid point. -/
theorem index5 : ∀ t : Fin cfg0.N, win0_5.index t = ![(bOf t : ℕ), 0, (kOfPt t : ℕ)] :=
  (by decide +kernel : ∀ t : Fin grid0.N, win0_5.index t = ![(bOf t : ℕ), 0, (kOfPt t : ℕ)])

variable (m : (ℓ : Loc nD τ sig) → Buf (Elt Ideal) ℓ) (c : Dev nD) (t : Fin cfg0.N)

/-- An element of the block of queries. -/
theorem iblk0_at (q : Fin 640) (C : Fin 1280) :
    (iblk m c 0 t : S1x640x1280.Idx → EReal) (ix3 0 q C)
      = (m ((c : Thread nD τ).loc main_arg0) : S3x640x2560.Idx → EReal)
          (ix3 (bOf t) q ⟨(kOfPt t : ℕ) * 1280 + C, by have := (kOfPt t).isLt; omega⟩) := by
  refine Eq.trans ?_ (congrFun (V_main_arg0 m c) _)
  refine congrArg (V (F := Ideal) m c main_arg0 : S3x640x2560.Idx → EReal) ?_
  funext a
  apply Fin.ext
  blk_simp [index0]
  match a with
  | ⟨0, _⟩ => show (bOf t : ℕ) * 1 + 0 = bOf t; omega
  | ⟨1, _⟩ => show 0 * 640 + (q : ℕ) = q; omega
  | ⟨2, _⟩ => rfl

/-- An element of the block of keys. -/
theorem iblk1_at (q : Fin 640) (C : Fin 128) :
    (iblk m c 1 t : S1x640x128.Idx → EReal) (ix3 0 q C)
      = (m ((c : Thread nD τ).loc main_arg1) : S3x640x256.Idx → EReal)
          (ix3 (bOf t) q ⟨(kOfPt t : ℕ) * 128 + C, by have := (kOfPt t).isLt; omega⟩) := by
  refine Eq.trans ?_ (congrFun (V_main_arg1 m c) _)
  refine congrArg (V (F := Ideal) m c main_arg1 : S3x640x256.Idx → EReal) ?_
  funext a
  apply Fin.ext
  blk_simp [index1]
  match a with
  | ⟨0, _⟩ => show (bOf t : ℕ) * 1 + 0 = bOf t; omega
  | ⟨1, _⟩ => show 0 * 640 + (q : ℕ) = q; omega
  | ⟨2, _⟩ => rfl

/-- An element of the block of values. -/
theorem iblk2_at (q : Fin 640) (C : Fin 128) :
    (iblk m c 2 t : S1x640x128.Idx → EReal) (ix3 0 q C)
      = (m ((c : Thread nD τ).loc main_arg2) : S3x640x256.Idx → EReal)
          (ix3 (bOf t) q ⟨(kOfPt t : ℕ) * 128 + C, by have := (kOfPt t).isLt; omega⟩) := by
  refine Eq.trans ?_ (congrFun (V_main_arg2 m c) _)
  refine congrArg (V (F := Ideal) m c main_arg2 : S3x640x256.Idx → EReal) ?_
  funext a
  apply Fin.ext
  blk_simp [index2]
  match a with
  | ⟨0, _⟩ => show (bOf t : ℕ) * 1 + 0 = bOf t; omega
  | ⟨1, _⟩ => show 0 * 640 + (q : ℕ) = q; omega
  | ⟨2, _⟩ => rfl

/-- An element of the block of bias rows. -/
theorem iblk3_at (l : Fin 128) (j : Fin 640) :
    (iblk m c 3 t : S1x128x640.Idx → EReal) (ix3 0 l j)
      = ((colTab (fun g => ReferenceIdeal.Att.slope ((kOfPt t : ℕ) * 10 + g)) l j : ℝ) : EReal) := by
  refine Eq.trans ?_ (rhs_read m c (kOfPt t) l j)
  refine congrArg (V (F := Ideal) m c main_v82 : S2x128x640.Idx → EReal) ?_
  funext a
  apply Fin.ext
  blk_simp [index3]
  match a with
  | ⟨0, _⟩ => show (kOfPt t : ℕ) * 1 + 0 = kOfPt t; omega
  | ⟨1, _⟩ => show 0 * 128 + (l : ℕ) = l; omega
  | ⟨2, _⟩ => show 0 * 640 + (j : ℕ) = j; omega

/-- An element of the block of bias columns. -/
theorem iblk4_at (r : Fin 640) (l : Fin 128) :
    (iblk m c 4 t : S640x128.Idx → EReal) (ix2 r l) = ((rowTab r l : ℝ) : EReal) := by
  refine Eq.trans ?_ (lhs_read m c r l)
  refine congrArg (V (F := Ideal) m c main_v110 : S640x128.Idx → EReal) ?_
  funext a
  apply Fin.ext
  blk_simp [index4]
  match a with
  | ⟨0, _⟩ => show 0 * 640 + (r : ℕ) = r; omega
  | ⟨1, _⟩ => show 0 * 128 + (l : ℕ) = l; omega

end Cert.KernelIdeal.Ker
-- ==== Proof.Ref.Quant.lean ====
/- The reference's quantised inputs: widened again, the queries and keys are the inputs; the values' codes times their row's scale are
   the values. -/
module

public import proofs.«01_k».proof.Proof.Ref.Scale

@[expose] public section

noncomputable section

namespace Cert.ReferenceIdeal.Att

open Cert.ReferenceIdeal Cert.ReferenceIdeal.Gen Idealize.ShloMosaic Cert.ReferenceIdeal.Read

/-! ## Queries -/

theorem v18_eq (x0 : (⟨S3x640x2560, .bf16⟩ : BufTy).Contents (Elt Ideal)) (i : S3x640x2x10x4x1.Idx) :
    val_main_v18 (F := Ideal) x0 i = expo (val_main_v5 (F := Ideal) x0 i) := by
  unfold expo
  rw [val_main_v18_apply, val_main_v17_apply, val_main_v15_apply, val_main_v14_apply, val_main_v10_apply, val_main_v9_apply, val_main_v7_apply, val_main_v6_apply, val_main_v8_apply, val_main_v13_apply, val_main_v12_apply, val_main_v11_apply, val_main_v16_apply, val_main_call0_v1_apply, val_main_call0_v0_apply, val_main_cst_0_apply, val_main_cst_1_apply, val_main_cst_2_apply, val_main_cst_3_apply, val_main_cst_4_apply]

/-- The axis the maximum is taken over. -/
theorem red4 : S3x640x2x10x4x32.Reduces [5] S3x640x2x10x4 := ⟨rfl, Nat.succ_pos _, reducesTo_S3x640x2x10x4x32_S3x640x2x10x4_d5.2⟩

/-- The block an element of the queries lies in. -/
def blockOf (i : S3x640x2x10x4x32.Idx) : S3x640x2x10x4x1.Idx := ix6 (i 0) (i 1) (i 2) (i 3) (i 4) 0

theorem v22_at (x0 : (⟨S3x640x2560, .bf16⟩ : BufTy).Contents (Elt Ideal)) (i : S3x640x2x10x4x32.Idx) :
    val_main_v22 (F := Ideal) x0 i = val_main_v21 (F := Ideal) x0 (blockOf i) := by
  unfold val_main_v22
  exact broadcastInDim_apply _ _ _ i (blockOf i) (fun a => by
    match a with | ⟨0, _⟩ => rfl | ⟨1, _⟩ => rfl | ⟨2, _⟩ => rfl | ⟨3, _⟩ => rfl | ⟨4, _⟩ => rfl | ⟨5, _⟩ => rfl)

theorem v29_at (x0 : (⟨S3x640x2560, .bf16⟩ : BufTy).Contents (Elt Ideal)) (i : S3x640x2x10x4x32.Idx) :
    val_main_v29 (F := Ideal) x0 i = val_main_v28 (F := Ideal) x0 (blockOf i) := by
  unfold val_main_v29
  exact broadcastInDim_apply _ _ _ i (blockOf i) (fun a => by
    match a with | ⟨0, _⟩ => rfl | ⟨1, _⟩ => rfl | ⟨2, _⟩ => rfl | ⟨3, _⟩ => rfl | ⟨4, _⟩ => rfl | ⟨5, _⟩ => rfl)

/-- The queries, quantised and widened again, are the queries. -/
theorem v31_eq (x0 : (⟨S3x640x2560, .bf16⟩ : BufTy).Contents (Elt Ideal)) (hx : ∀ j, ∃ r : ℝ, x0 j = (r : EReal)) :
    (val_main_v31 (F := Ideal) x0 : S3x640x2x10x128.Idx → EReal) = val_main_v0 (F := Ideal) x0 := by
  have h0 : ∀ i, ∃ r : ℝ, (val_main_v0 (F := Ideal) x0 i : EReal) = (r : EReal) := fun i => by rw [val_main_v0_apply]; exact hx _
  have h1 : (val_main_v2 (F := Ideal) x0 : _ → EReal) = shapeCast _ (val_main_v0 (F := Ideal) x0) shapeCasts_S3x640x2x10x128_S3x640x2x10x4x32 := by
    unfold val_main_v2 val_main_v1; rfl
  have h2 : ∀ i, ∃ r : ℝ, (val_main_v2 (F := Ideal) x0 i : EReal) = (r : EReal) := fun i => by rw [h1]; exact h0 _
  choose R hR using h2
  have h30 : ∀ i, (val_main_v30 (F := Ideal) x0 i : EReal) = val_main_v2 (F := Ideal) x0 i := by
    intro i
    obtain ⟨m, hm, m0, hle⟩ := fold_abs_real (n := 32) (by decide)
      (fun k => (val_main_v3 (F := Ideal) x0
        (red4.lift (idx_main_v5 (blockOf i)) k) : EReal))
      (fun k => R (red4.lift (idx_main_v5 (blockOf i)) k))
      (fun k => by rw [val_main_v3_apply, hR]; exact abs_coe' _)
    have e : red4.lift (idx_main_v5 (blockOf i)) (i 5) = i :=
      lift_last red4 rfl _ i (fun c => match c with | ⟨0, _⟩ => rfl | ⟨1, _⟩ => rfl | ⟨2, _⟩ => rfl | ⟨3, _⟩ => rfl | ⟨4, _⟩ => rfl)
    have hi := hle (i 5)
    rw [e] at hi
    have h5 : (val_main_v5 (F := Ideal) x0 (blockOf i) : EReal) = (m : EReal) := by
      rw [val_main_v5_apply, ← hm]
      exact hostMax _ _ _ red4 _
    obtain ⟨p, p0, p1, p2, p3⟩ := expo_val m m0
    have hw : (val_main_v22 (F := Ideal) x0 i : EReal) = ((p⁻¹ : ℝ) : EReal) := by
      rw [v22_at, val_main_v21_apply, val_main_v20_apply, val_main_cst_5_apply, val_main_v19_apply, v18_eq, h5]
      exact p3
    have hs : (val_main_v29 (F := Ideal) x0 i : EReal) = (p : EReal) := by
      rw [v29_at, val_main_v28_apply, val_main_v26_apply, val_main_v25_apply, val_main_cst_8_apply, v18_eq]
      exact (congrArg (fun e => FloatOps.hostPowf (F := Ideal) (φ := .f32) (FloatOps.ofBits .f32 0x40000000#32) (expo e)) h5).trans p2
    have hc : (val_main_v24 (F := Ideal) x0 i : EReal) = ((R i * p⁻¹ : ℝ) : EReal) := by
      rw [val_main_v24_apply, val_main_call1_v2_apply, val_main_v23_apply, hw, hR, val_main_call1_v1_apply,
      val_main_call1_v4_apply, val_main_call1_v0_apply, val_main_call1_v3_apply, val_main_cst_6_apply, val_main_cst_7_apply]
      exact scaled_clip hi p0 p1
    rw [val_main_v30_apply, val_main_v27_apply, hs, hc, hR]
    show ((R i * p⁻¹ : ℝ) : EReal) * (p : EReal) = _
    rw [← EReal.coe_mul, inv_mul_cancel_right₀ p0.ne']
  have h : (val_main_v30 (F := Ideal) x0 : S3x640x2x10x4x32.Idx → EReal) = val_main_v2 (F := Ideal) x0 := funext h30
  unfold val_main_v31
  rw [h, h1]
  exact shapeCast_shapeCast _ _ _

/-! ## Keys -/

theorem v50_eq (x1 : (⟨S3x640x256, .bf16⟩ : BufTy).Contents (Elt Ideal)) (i : S3x640x2x4x1.Idx) :
    val_main_v50 (F := Ideal) x1 i = expo (val_main_v37 (F := Ideal) x1 i) := by
  unfold expo
  rw [val_main_v50_apply, val_main_v49_apply, val_main_v47_apply, val_main_v46_apply, val_main_v42_apply, val_main_v41_apply, val_main_v39_apply, val_main_v38_apply, val_main_v40_apply, val_main_v45_apply, val_main_v44_apply, val_main_v43_apply, val_main_v48_apply, val_main_call2_v1_apply, val_main_call2_v0_apply, val_main_cst_10_apply, val_main_cst_11_apply, val_main_cst_12_apply, val_main_cst_13_apply, val_main_cst_14_apply]

/-- The axis the maximum is taken over. -/
theorem red36 : S3x640x2x4x32.Reduces [4] S3x640x2x4 := ⟨rfl, Nat.succ_pos _, reducesTo_S3x640x2x4x32_S3x640x2x4_d4.2⟩

/-- The keys, quantised and widened again, are the keys. -/
theorem v63_eq (x1 : (⟨S3x640x256, .bf16⟩ : BufTy).Contents (Elt Ideal)) (hx : ∀ j, ∃ r : ℝ, x1 j = (r : EReal)) :
    (val_main_v63 (F := Ideal) x1 : S3x640x2x128.Idx → EReal) = val_main_v32 (F := Ideal) x1 := by
  have h0 : ∀ i, ∃ r : ℝ, (val_main_v32 (F := Ideal) x1 i : EReal) = (r : EReal) := fun i => by rw [val_main_v32_apply]; exact hx _
  have h1 : (val_main_v34 (F := Ideal) x1 : _ → EReal) = shapeCast _ (val_main_v32 (F := Ideal) x1) shapeCasts_S3x640x2x128_S3x640x2x4x32 := by
    unfold val_main_v34 val_main_v33; rfl
  have h2 : ∀ i, ∃ r : ℝ, (val_main_v34 (F := Ideal) x1 i : EReal) = (r : EReal) := fun i => by rw [h1]; exact h0 _
  choose R hR using h2
  have h30 : ∀ i, (val_main_v62 (F := Ideal) x1 i : EReal) = val_main_v34 (F := Ideal) x1 i := by
    intro i
    obtain ⟨m, hm, m0, hle⟩ := fold_abs_real (n := 32) (by decide)
      (fun k => (val_main_v35 (F := Ideal) x1
        (red36.lift (idx_main_v37 (idx_main_v54 i)) k) : EReal))
      (fun k => R (red36.lift (idx_main_v37 (idx_main_v54 i)) k))
      (fun k => by rw [val_main_v35_apply, hR]; exact abs_coe' _)
    have e : red36.lift (idx_main_v37 (idx_main_v54 i)) (i 4) = i :=
      lift_last red36 rfl _ i (fun c => match c with | ⟨0, _⟩ => rfl | ⟨1, _⟩ => rfl | ⟨2, _⟩ => rfl | ⟨3, _⟩ => rfl)
    have hi := hle (i 4)
    rw [e] at hi
    have h5 : (val_main_v37 (F := Ideal) x1 (idx_main_v54 i) : EReal) = (m : EReal) := by
      rw [val_main_v37_apply, ← hm]
      exact hostMax _ _ _ red36 _
    obtain ⟨p, p0, p1, p2, p3⟩ := expo_val m m0
    have hw : (val_main_v54 (F := Ideal) x1 i : EReal) = ((p⁻¹ : ℝ) : EReal) := by
      rw [val_main_v54_apply, val_main_v53_apply, val_main_v52_apply, val_main_cst_15_apply, val_main_v51_apply, v50_eq, h5]
      exact p3
    have hs : (val_main_v61 (F := Ideal) x1 i : EReal) = (p : EReal) := by
      rw [val_main_v61_apply, val_main_v60_apply, val_main_v58_apply, val_main_v57_apply, val_main_cst_18_apply, v50_eq]
      exact (congrArg (fun e => FloatOps.hostPowf (F := Ideal) (φ := .f32) (FloatOps.ofBits .f32 0x40000000#32) (expo e)) h5).trans p2
    have hc : (val_main_v56 (F := Ideal) x1 i : EReal) = ((R i * p⁻¹ : ℝ) : EReal) := by
      rw [val_main_v56_apply, val_main_call3_v2_apply, val_main_v55_apply, hw, hR, val_main_call3_v1_apply,
      val_main_call3_v4_apply, val_main_call3_v0_apply, val_main_call3_v3_apply, val_main_cst_16_apply, val_main_cst_17_apply]
      exact scaled_clip hi p0 p1
    rw [val_main_v62_apply, val_main_v59_apply, hs, hc, hR]
    show ((R i * p⁻¹ : ℝ) : EReal) * (p : EReal) = _
    rw [← EReal.coe_mul, inv_mul_cancel_right₀ p0.ne']
  have h : (val_main_v62 (F := Ideal) x1 : S3x640x2x4x32.Idx → EReal) = val_main_v34 (F := Ideal) x1 := funext h30
  unfold val_main_v63
  rw [h, h1]
  exact shapeCast_shapeCast _ _ _

/-! ## Values -/

theorem v81_eq (x2 : (⟨S3x640x256, .bf16⟩ : BufTy).Contents (Elt Ideal)) (i : S3x640x2x1.Idx) :
    val_main_v81 (F := Ideal) x2 i = expo (val_main_v68 (F := Ideal) x2 i) := by
  unfold expo
  rw [val_main_v81_apply, val_main_v80_apply, val_main_v78_apply, val_main_v77_apply, val_main_v73_apply, val_main_v72_apply, val_main_v70_apply, val_main_v69_apply, val_main_v71_apply, val_main_v76_apply, val_main_v75_apply, val_main_v74_apply, val_main_v79_apply, val_main_call4_v1_apply, val_main_call4_v0_apply, val_main_cst_20_apply, val_main_cst_21_apply, val_main_cst_22_apply, val_main_cst_23_apply, val_main_cst_24_apply]

/-- The axis the maximum is taken over. -/
theorem red67 : S3x640x2x128.Reduces [3] S3x640x2 := ⟨rfl, Nat.succ_pos _, reducesTo_S3x640x2x128_S3x640x2_d3.2⟩

/-- A value row has a positive scale, and its codes are its elements divided by that scale. -/
theorem v87_eq (x2 : (⟨S3x640x256, .bf16⟩ : BufTy).Contents (Elt Ideal)) (R : S3x640x2x128.Idx → ℝ)
    (hR : ∀ i, (val_main_v65 (F := Ideal) x2 i : EReal) = (R i : EReal)) (j : S3x640x2x1.Idx) :
    ∃ p : ℝ, 0 < p ∧ (val_main_v89 (F := Ideal) x2 j : EReal) = (p : EReal)
      ∧ ∀ i, idx_main_v85 i = j → (val_main_v87 (F := Ideal) x2 i : EReal) = ((R i * p⁻¹ : ℝ) : EReal) := by
  obtain ⟨m, hm, m0, hle⟩ := fold_abs_real (n := 128) (by decide)
    (fun k => (val_main_v66 (F := Ideal) x2
      (red67.lift (idx_main_v68 j) k) : EReal))
    (fun k => R (red67.lift (idx_main_v68 j) k))
    (fun k => by rw [val_main_v66_apply, hR]; exact abs_coe' _)
  have h5 : (val_main_v68 (F := Ideal) x2 j : EReal) = (m : EReal) := by
    rw [val_main_v68_apply, ← hm]
    exact hostMax _ _ _ red67 _
  obtain ⟨p, p0, p1, p2, p3⟩ := expo_val m m0
  refine ⟨p, p0, ?_, fun i hij => ?_⟩
  · rw [val_main_v89_apply, val_main_v88_apply, val_main_cst_28_apply, v81_eq, h5]
    exact p2
  · subst hij
    have e : red67.lift (idx_main_v68 (idx_main_v85 i)) (i 3) = i :=
      lift_last red67 rfl _ i (fun c => match c with | ⟨0, _⟩ => rfl | ⟨1, _⟩ => rfl | ⟨2, _⟩ => rfl)
    have hi := hle (i 3)
    rw [e] at hi
    have hw : (val_main_v85 (F := Ideal) x2 i : EReal) = ((p⁻¹ : ℝ) : EReal) := by
      rw [val_main_v85_apply, val_main_v84_apply, val_main_v83_apply, val_main_cst_25_apply, val_main_v82_apply, v81_eq, h5]
      exact p3
    rw [val_main_v87_apply, val_main_call5_v2_apply, val_main_v86_apply, hw, hR, val_main_call5_v1_apply,
      val_main_call5_v4_apply, val_main_call5_v0_apply, val_main_call5_v3_apply, val_main_cst_26_apply, val_main_cst_27_apply]
    exact scaled_clip hi p0 p1

end Cert.ReferenceIdeal.Att
-- ==== Proof.Ref.Att.lean ====
/- The reference's attention on real inputs: scores with their ALiBi bias, the causal softmax, the quantised weights, and the
   weighted values, an element at a time. -/
module

public import proofs.«01_k».proof.Proof.Ref.Quant
public import proofs.«01_k».proof.Proof.Ref.Slope
public import proofs.«01_k».proof.Proof.Ker.Unit

@[expose] public section

noncomputable section

namespace Cert.ReferenceIdeal.Att

open Cert.ReferenceIdeal Cert.ReferenceIdeal.Gen Idealize.ShloMosaic Cert.ReferenceIdeal.Read Cert.KernelIdeal.Ker

/-! ## The inputs by head -/

/-- Query lanes of head `κ * 10 + g`. -/
def qOf (X : S3x640x2560.Idx → ℝ) (b : Fin 3) (κ : Fin 2) (g : Fin 10) (q : Fin 640) (d : Fin 128) : ℝ :=
  X (ix3 b q ⟨(κ : ℕ) * 1280 + g * 128 + d, by omega⟩)

/-- Key or value lanes of key-value head `κ`. -/
def kOf (K : S3x640x256.Idx → ℝ) (b : Fin 3) (κ : Fin 2) (s : Fin 640) (d : Fin 128) : ℝ :=
  K (ix3 b s ⟨(κ : ℕ) * 128 + d, by omega⟩)

theorem v90_at (x0 : (⟨S3x640x2560, .bf16⟩ : BufTy).Contents (Elt Ideal)) (X : S3x640x2560.Idx → ℝ) (hx : ∀ j, x0 j = ((X j : ℝ) : EReal))
    (b : Fin 3) (κ : Fin 2) (g : Fin 10) (q : Fin 640) (d : Fin 128) :
    (val_main_v90 (F := Ideal) x0 (ix5 b κ g q d) : EReal) = ((qOf X b κ g q d : ℝ) : EReal) := by
  have h : (val_main_v90 (F := Ideal) x0 (ix5 b κ g q d) : EReal) = val_main_v31 (F := Ideal) x0 (ix5 b q κ g d) := by
    rw [val_main_v90_apply]
    exact congrArg _ (by funext a; match a with | ⟨0, _⟩ => rfl | ⟨1, _⟩ => rfl | ⟨2, _⟩ => rfl | ⟨3, _⟩ => rfl | ⟨4, _⟩ => rfl)
  rw [h, v31_eq x0 (fun j => ⟨_, hx j⟩), val_main_v0_apply, hx]
  unfold qOf
  have e : idx_main_v0 (ix5 b q κ g d) = (ix3 b q ⟨(κ : ℕ) * 1280 + g * 128 + d, by omega⟩ : S3x640x2560.Idx) := by
    funext a
    match a with
    | ⟨0, _⟩ => exact Fin.ext (by show (((((b : ℕ) * 640 + q) * 2 + κ) * 10 + g) * 128 + d) / 1638400 = b; omega)
    | ⟨1, _⟩ => exact Fin.ext (by show (((((b : ℕ) * 640 + q) * 2 + κ) * 10 + g) * 128 + d) / 2560 % 640 = q; omega)
    | ⟨2, _⟩ => exact Fin.ext (by show (((((b : ℕ) * 640 + q) * 2 + κ) * 10 + g) * 128 + d) % 2560 = (κ : ℕ) * 1280 + g * 128 + d; omega)
  rw [e]

theorem idx32_at (b : Fin 3) (s : Fin 640) (κ : Fin 2) (d : Fin 128) :
    idx_main_v32 (ix4 b s κ d) = (ix3 b s ⟨(κ : ℕ) * 128 + d, by omega⟩ : S3x640x256.Idx) := by
  funext a
  match a with
  | ⟨0, _⟩ => exact Fin.ext (by show ((((b : ℕ) * 640 + s) * 2 + κ) * 128 + d) / 163840 = b; omega)
  | ⟨1, _⟩ => exact Fin.ext (by show ((((b : ℕ) * 640 + s) * 2 + κ) * 128 + d) / 256 % 640 = s; omega)
  | ⟨2, _⟩ => exact Fin.ext (by show ((((b : ℕ) * 640 + s) * 2 + κ) * 128 + d) % 256 = (κ : ℕ) * 128 + d; omega)

theorem v91_at (x1 : (⟨S3x640x256, .bf16⟩ : BufTy).Contents (Elt Ideal)) (K : S3x640x256.Idx → ℝ) (hk : ∀ j, x1 j = ((K j : ℝ) : EReal))
    (b : Fin 3) (κ : Fin 2) (s : Fin 640) (d : Fin 128) :
    (val_main_v91 (F := Ideal) x1 (ix4 b κ s d) : EReal) = ((kOf K b κ s d : ℝ) : EReal) := by
  have h : (val_main_v91 (F := Ideal) x1 (ix4 b κ s d) : EReal) = val_main_v63 (F := Ideal) x1 (ix4 b s κ d) := by
    rw [val_main_v91_apply]
    exact congrArg _ (by funext a; match a with | ⟨0, _⟩ => rfl | ⟨1, _⟩ => rfl | ⟨2, _⟩ => rfl | ⟨3, _⟩ => rfl)
  rw [h, v63_eq x1 (fun j => ⟨_, hk j⟩), val_main_v32_apply, hk, idx32_at]
  rfl

/-- A value row has a positive scale, and its codes are its elements divided by that scale. -/
theorem value_at (x2 : (⟨S3x640x256, .bf16⟩ : BufTy).Contents (Elt Ideal)) (V : S3x640x256.Idx → ℝ) (hv : ∀ j, x2 j = ((V j : ℝ) : EReal))
    (b : Fin 3) (κ : Fin 2) (s : Fin 640) :
    ∃ p : ℝ, 0 < p ∧ (∀ g q, (val_main_v135 (F := Ideal) x2 (ix5 b κ g q s) : EReal) = (p : EReal))
      ∧ ∀ d, (val_main_v92 (F := Ideal) x2 (ix4 b κ s d) : EReal) = ((kOf V b κ s d * p⁻¹ : ℝ) : EReal) := by
  have h65 : ∀ i, (val_main_v65 (F := Ideal) x2 i : EReal) = ((V (idx_main_v65 i) : ℝ) : EReal) := by
    intro i
    rw [val_main_v65_apply, val_main_v64_apply, hv]
    rfl
  obtain ⟨p, p0, p1, p2⟩ := v87_eq x2 _ h65 (ix4 b s κ 0)
  refine ⟨p, p0, fun g q => ?_, fun d => ?_⟩
  · rw [val_main_v135_apply, val_main_v134_apply, val_main_v94_apply, val_main_v93_apply, ← p1]
    refine congrArg _ (funext fun a => ?_)
    match a with
    | ⟨0, _⟩ => exact Fin.ext (by show (((b : ℕ) * 640 + s) * 2 + κ) / 1280 = b; omega)
    | ⟨1, _⟩ => exact Fin.ext (by show (((b : ℕ) * 640 + s) * 2 + κ) / 2 % 640 = s; omega)
    | ⟨2, _⟩ => exact Fin.ext (by show (((b : ℕ) * 640 + s) * 2 + κ) / 1 % 2 = κ; omega)
    | ⟨3, _⟩ => rfl
  · have h : (val_main_v92 (F := Ideal) x2 (ix4 b κ s d) : EReal) = val_main_v87 (F := Ideal) x2 (ix4 b s κ d) := by
      rw [val_main_v92_apply]
      exact congrArg _ (by funext a; match a with | ⟨0, _⟩ => rfl | ⟨1, _⟩ => rfl | ⟨2, _⟩ => rfl | ⟨3, _⟩ => rfl)
    rw [h, p2 (ix4 b s κ d) (by funext a; match a with | ⟨0, _⟩ => rfl | ⟨1, _⟩ => rfl | ⟨2, _⟩ => rfl | ⟨3, _⟩ => rfl)]
    have e : idx_main_v65 (ix4 b s κ d) = (ix3 b s ⟨(κ : ℕ) * 128 + d, by omega⟩ : S3x640x256.Idx) := idx32_at b s κ d
    rw [e]
    rfl

/-! ## Scores -/

theorem ofBits_128 : Ideal.ofBits .f32 0x43000000#32 = ((128 : ℝ) : EReal) := by
  simp [Ideal.ofBits, Ideal.ieee, -EReal.coe_mul]; norm_num

/-- The biased score of query `q` and key `k`. -/
def score (X : S3x640x2560.Idx → ℝ) (K : S3x640x256.Idx → ℝ) (b : Fin 3) (κ : Fin 2) (g : Fin 10) (q k : Fin 640) : ℝ :=
  (∑ d, qOf X b κ g q d * kOf K b κ k d) * (Real.sqrt 128)⁻¹ - slope ((κ : ℕ) * 10 + g) * ((q : ℕ) - (k : ℕ) : ℝ)

theorem v122_at (x0 : (⟨S3x640x2560, .bf16⟩ : BufTy).Contents (Elt Ideal)) (x1 : (⟨S3x640x256, .bf16⟩ : BufTy).Contents (Elt Ideal))
    (X : S3x640x2560.Idx → ℝ) (K : S3x640x256.Idx → ℝ) (hx : ∀ j, x0 j = ((X j : ℝ) : EReal)) (hk : ∀ j, x1 j = ((K j : ℝ) : EReal))
    (b : Fin 3) (κ : Fin 2) (g : Fin 10) (q k : Fin 640) :
    (val_main_v122 (F := Ideal) x0 x1 (ix5 b κ g q k) : EReal) = ((score X K b κ g q k : ℝ) : EReal) := by
  have h1 : (val_main_v109 (F := Ideal) x0 x1 (ix5 b κ g q k) : EReal) = ((∑ d, qOf X b κ g q d * kOf K b κ k d : ℝ) : EReal) := by
    rw [val_main_v109_apply, ← coe_sum']
    refine Finset.sum_congr rfl fun d _ => ?_
    have e1 : lidx_main_v109 (ix5 b κ g q k) d = (ix5 b κ g q d : S3x2x10x640x128.Idx) := by
      funext a; match a with | ⟨0, _⟩ => rfl | ⟨1, _⟩ => rfl | ⟨2, _⟩ => rfl | ⟨3, _⟩ => rfl | ⟨4, _⟩ => rfl
    have e2 : ridx_main_v109 (ix5 b κ g q k) d = (ix4 b κ k d : S3x2x640x128.Idx) := by
      funext a; match a with | ⟨0, _⟩ => rfl | ⟨1, _⟩ => rfl | ⟨2, _⟩ => rfl | ⟨3, _⟩ => rfl
    rw [e1, e2, v90_at x0 X hx, v91_at x1 K hk, EReal.coe_mul]
  have h2 : (val_main_v112 (F := Ideal) (ix5 b κ g q k) : EReal) = ((Real.sqrt 128 : ℝ) : EReal) := by
    rw [val_main_v112_apply, val_main_v111_apply, val_main_v110_apply, val_main_cst_32_apply]
    show Ideal.sqrt (Ideal.ofBits .f32 0x43000000#32) = _
    rw [ofBits_128, Ideal.sqrt_coe, if_neg (by norm_num)]
  have h3 : (val_main_v121 (F := Ideal) (ix5 b κ g q k) : EReal) = ((slope ((κ : ℕ) * 10 + g) * ((q : ℕ) - (k : ℕ) : ℝ) : ℝ) : EReal) := by
    rw [val_main_v121_apply, val_main_v120_apply, val_main_v118_apply, val_main_v114_apply, val_main_v119_apply, val_main_v117_apply,
      val_main_v116_apply, val_main_v115_apply, val_main_v107_apply, val_main_v108_apply]
    have e : idx_main_v114 (idx_main_v118 (idx_main_v121 (ix5 b κ g q k))) = (ix2 κ g : S2x10.Idx) := by
      funext a; match a with | ⟨0, _⟩ => rfl | ⟨1, _⟩ => rfl
    rw [e, v106_at, EReal.coe_mul]
    show _ * (((BitVec.ofNat 32 (q : ℕ) - BitVec.ofNat 32 (k : ℕ)).toInt : ℝ) : EReal) = _
    have hi : (BitVec.ofNat 32 (q : ℕ) - BitVec.ofNat 32 (k : ℕ)).toInt = (q : ℤ) - (k : ℤ) := by
      rw [BitVec.toInt_sub]
      have h : ∀ n : Fin 640, (BitVec.ofNat 32 (n : ℕ)).toInt = ((n : ℕ) : ℤ) := fun n => by
        rw [BitVec.toInt_eq_toNat_of_lt] <;> simp [BitVec.toNat_ofNat] <;> omega
      rw [h, h, Int.bmod_eq_of_le (by omega) (by omega)]
    rw [hi]
    push_cast
    rfl
  rw [val_main_v122_apply, val_main_v113_apply, h1, h2, h3]
  show Ideal.div _ _ - _ = _
  rw [Ideal.div_coe (by positivity), ← EReal.coe_mul, ← EReal.coe_sub]
  unfold score
  rw [one_div]

theorem v124_at (x0 : (⟨S3x640x2560, .bf16⟩ : BufTy).Contents (Elt Ideal)) (x1 : (⟨S3x640x256, .bf16⟩ : BufTy).Contents (Elt Ideal))
    (X : S3x640x2560.Idx → ℝ) (K : S3x640x256.Idx → ℝ) (hx : ∀ j, x0 j = ((X j : ℝ) : EReal)) (hk : ∀ j, x1 j = ((K j : ℝ) : EReal))
    (b : Fin 3) (κ : Fin 2) (g : Fin 10) (q k : Fin 640) :
    (val_main_v124 (F := Ideal) x0 x1 (ix5 b κ g q k) : EReal) = if (k : ℕ) ≤ q then ((score X K b κ g q k : ℝ) : EReal) else ⊥ := by
  rw [val_main_v124_apply, val_main_call6_v1_apply, val_main_v123_apply, val_main_v108_apply, val_main_v107_apply,
    v122_at x0 x1 X K hx hk, val_main_call6_v2_apply, val_main_call6_v0_apply, val_main_cst_33_apply]
  show Scalar.select (IntOp.cmpi .sgt (BitVec.ofNat 32 (k : ℕ)) (BitVec.ofNat 32 (q : ℕ))) (Ideal.ofBits .f32 0xFF800000#32) _ = _
  have h : ∀ n : Fin 640, (BitVec.ofNat 32 (n : ℕ)).toInt = ((n : ℕ) : ℤ) := fun n => by
    rw [BitVec.toInt_eq_toNat_of_lt] <;> simp [BitVec.toNat_ofNat] <;> omega
  have hc : IntOp.cmpi .sgt (BitVec.ofNat 32 (k : ℕ)) (BitVec.ofNat 32 (q : ℕ)) = if (k : ℕ) ≤ q then 0#1 else 1#1 := by
    show BitVec.ofBool ((BitVec.ofNat 32 (q : ℕ)).slt (BitVec.ofNat 32 (k : ℕ))) = _
    unfold BitVec.slt
    rw [h, h]
    by_cases hkq : (k : ℕ) ≤ q
    · rw [if_pos hkq, decide_eq_false (by omega)]; rfl
    · rw [if_neg hkq, decide_eq_true (by omega)]; rfl
  rw [hc, ofBits_neg_inf_f32]
  by_cases hkq : (k : ℕ) ≤ q
  · rw [if_pos hkq, if_pos hkq]; rfl
  · rw [if_neg hkq, if_neg hkq]; rfl

end Cert.ReferenceIdeal.Att
-- ==== Proof.Ref.Value.lean ====
/- The reference's result on real inputs is causal attention: the softmax's shift cancels, and so do the scales of the quantised weights
   and of the quantised values. -/
module

public import proofs.«01_k».proof.Proof.Ref.Att

@[expose] public section

noncomputable section

namespace Cert.ReferenceIdeal.Att

open Cert.ReferenceIdeal Cert.ReferenceIdeal.Gen Idealize.ShloMosaic Cert.ReferenceIdeal.Read Cert.KernelIdeal.Ker

/-- The softmax weight of key `k` before normalisation, scores shifted by `M`. -/
def wgt (X : S3x640x2560.Idx → ℝ) (K : S3x640x256.Idx → ℝ) (M : ℝ) (b : Fin 3) (κ : Fin 2) (g : Fin 10) (q k : Fin 640) : ℝ :=
  if (k : ℕ) ≤ q then Real.exp (score X K b κ g q k - M) else 0

/-- The weighted mean of the values under the shifted weights is attention. -/
theorem mean_eq_att (X : S3x640x2560.Idx → ℝ) (K V : S3x640x256.Idx → ℝ) (M : ℝ) (b : Fin 3) (κ : Fin 2) (g : Fin 10) (q : Fin 640)
    (d : Fin 128) :
    ∑ k, wgt X K M b κ g q k * (∑ k, wgt X K M b κ g q k)⁻¹ * kOf V b κ k d
      = att (kOf K b κ) (kOf V b κ) (qOf X b κ g q) (slope ((κ : ℕ) * 10 + g)) q d := by
  have h : ∀ k, wgt X K M b κ g q k = Real.exp (-(slope ((κ : ℕ) * 10 + g)) * (q : ℕ) - M)
      * (if (k : ℕ) ≤ q then ew (kOf K b κ) (qOf X b κ g q) (slope ((κ : ℕ) * 10 + g)) k else 0) := by
    intro k
    unfold wgt
    by_cases hk : (k : ℕ) ≤ q
    · rw [if_pos hk, if_pos hk]
      unfold ew score
      rw [← Real.exp_add]
      congr 1
      have : ∑ d, qOf X b κ g q d * kOf K b κ k d = ∑ d, kOf K b κ k d * qOf X b κ g q d := Finset.sum_congr rfl fun d _ => mul_comm _ _
      rw [this]
      ring
    · rw [if_neg hk, if_neg hk, mul_zero]
  unfold att
  have hc := (Real.exp_pos (-(slope ((κ : ℕ) * 10 + g)) * (q : ℕ) - M)).ne'
  generalize Real.exp (-(slope ((κ : ℕ) * 10 + g)) * (q : ℕ) - M) = c at h hc
  have hs : ∑ k, wgt X K M b κ g q k = c * ∑ k : Fin 640, if (k : ℕ) ≤ q then ew (kOf K b κ) (qOf X b κ g q) (slope ((κ : ℕ) * 10 + g)) k else 0 := by
    rw [Finset.mul_sum]
    exact Finset.sum_congr rfl fun k _ => h k
  rw [hs, Finset.sum_div]
  refine Finset.sum_congr rfl fun k _ => ?_
  rw [h, mul_inv]
  generalize (∑ k : Fin 640, if (k : ℕ) ≤ q then ew (kOf K b κ) (qOf X b κ g q) (slope ((κ : ℕ) * 10 + g)) k else 0) = D
  by_cases hk : (k : ℕ) ≤ q
  · rw [if_pos hk, if_pos hk]
    field_simp
  · rw [if_neg hk, if_neg hk]; simp

/-- The axis the softmax runs over. -/
theorem red124 : S3x2x10x640x640.Reduces [4] S3x2x10x640 := ⟨rfl, Nat.succ_pos _, reducesTo_S3x2x10x640x640_S3x2x10x640_d4.2⟩

/-- Key `k` of a row of scores. -/
theorem lift124 (b : Fin 3) (κ : Fin 2) (g : Fin 10) (q k : Fin 640) :
    red124.lift (ix4 b κ g q : S3x2x10x640.Idx) k = (ix5 b κ g q k : S3x2x10x640x640.Idx) :=
  lift_last red124 rfl _ (ix5 b κ g q k : S3x2x10x640x640.Idx)
    (fun c => match c with | ⟨0, _⟩ => rfl | ⟨1, _⟩ => rfl | ⟨2, _⟩ => rfl | ⟨3, _⟩ => rfl)

theorem row_of (b : Fin 3) (κ : Fin 2) (g : Fin 10) (q k : Fin 640) :
    (idx_main_v127 (ix5 b κ g q k) : S3x2x10x640x1.Idx) = ix5 b κ g q 0 := by
  funext a; match a with | ⟨0, _⟩ => rfl | ⟨1, _⟩ => rfl | ⟨2, _⟩ => rfl | ⟨3, _⟩ => rfl | ⟨4, _⟩ => rfl

theorem row_of' (b : Fin 3) (κ : Fin 2) (g : Fin 10) (q : Fin 640) :
    (idx_main_v126 (ix5 b κ g q 0) : S3x2x10x640.Idx) = ix4 b κ g q := by
  funext a; match a with | ⟨0, _⟩ => rfl | ⟨1, _⟩ => rfl | ⟨2, _⟩ => rfl | ⟨3, _⟩ => rfl

variable (x0 : (⟨S3x640x2560, .bf16⟩ : BufTy).Contents (Elt Ideal)) (x1 x2 : (⟨S3x640x256, .bf16⟩ : BufTy).Contents (Elt Ideal))
  (X : S3x640x2560.Idx → ℝ) (K V : S3x640x256.Idx → ℝ)

/-- A row of the softmax: the weights under some shift over their sum. -/
theorem softmax_at (hx : ∀ j, x0 j = ((X j : ℝ) : EReal)) (hk : ∀ j, x1 j = ((K j : ℝ) : EReal))
    (b : Fin 3) (κ : Fin 2) (g : Fin 10) (q : Fin 640) :
    ∃ M : ℝ, ∀ k, (val_main_v133 (F := Ideal) x0 x1 (ix5 b κ g q k) : EReal)
      = ((wgt X K M b κ g q k * (∑ k, wgt X K M b κ g q k)⁻¹ : ℝ) : EReal) := by
  obtain ⟨M, hM, -, -⟩ := fold_max_real (n := 640) (fun k => (if (k : ℕ) ≤ q then ((score X K b κ g q k : ℝ) : EReal) else ⊥))
    (fun k => by by_cases h : (k : ℕ) ≤ q <;> simp [h]) ⟨⟨0, by decide⟩, by simp⟩
  have h125 : (val_main_v125 (F := Ideal) x0 x1 (ix4 b κ g q) : EReal) = (M : EReal) := by
    rw [← hM]
    refine (hostMax _ _ _ red124 _).trans ?_
    congr 1
    funext k
    rw [← v124_at x0 x1 X K hx hk b κ g q k]
    exact congrArg _ (lift124 b κ g q k)
  have h129 : ∀ k, (val_main_v129 (F := Ideal) x0 x1 (ix5 b κ g q k) : EReal) = ((wgt X K M b κ g q k : ℝ) : EReal) := by
    intro k
    rw [val_main_v129_apply, val_main_v128_apply, val_main_v127_apply, val_main_v126_apply, row_of, row_of', h125,
      v124_at x0 x1 X K hx hk]
    show Ideal.exp (_ - (M : EReal)) = _
    unfold wgt
    by_cases h : (k : ℕ) ≤ q
    · rw [if_pos h, if_pos h, ← EReal.coe_sub]; rfl
    · rw [if_neg h, if_neg h, EReal.bot_sub]; rfl
  have h130 : (val_main_v130 (F := Ideal) x0 x1 (ix4 b κ g q) : EReal) = ((∑ k, wgt X K M b κ g q k : ℝ) : EReal) := by
    rw [val_main_v130_apply, val_main_cst_35_apply]
    show Ideal.ofBits .f32 0x00000000#32 + _ = _
    rw [Ideal.ofBits_zero_f32, zero_add, ← coe_sum']
    refine Finset.sum_congr rfl fun k _ => ?_
    rw [← h129 k]
    exact congrArg _ (by funext a; match a with | ⟨0, _⟩ => rfl | ⟨1, _⟩ => rfl | ⟨2, _⟩ => rfl | ⟨3, _⟩ => rfl | ⟨4, _⟩ => rfl)
  have hpos : 0 < ∑ k, wgt X K M b κ g q k := by
    refine Finset.sum_pos' (fun k _ => ?_) ⟨q, Finset.mem_univ _, ?_⟩
    · unfold wgt; split <;> positivity
    · unfold wgt; rw [if_pos le_rfl]; positivity
  refine ⟨M, fun k => ?_⟩
  have h132 : (val_main_v132 (F := Ideal) x0 x1 (ix5 b κ g q k) : EReal) = ((∑ k, wgt X K M b κ g q k : ℝ) : EReal) := by
    rw [val_main_v132_apply, val_main_v131_apply]
    have e : (idx_main_v131 (idx_main_v132 (ix5 b κ g q k)) : S3x2x10x640.Idx) = ix4 b κ g q := by
      funext a; match a with | ⟨0, _⟩ => rfl | ⟨1, _⟩ => rfl | ⟨2, _⟩ => rfl | ⟨3, _⟩ => rfl
    rw [e, h130]
  rw [val_main_v133_apply, h129, h132]
  show Ideal.div _ _ = _
  rw [Ideal.div_coe hpos.ne', ← EReal.coe_mul, one_div]

theorem v152_eq (i : S3x2x10x640x1.Idx) :
    val_main_v152 (F := Ideal) x0 x1 x2 i = expo (val_main_v139 (F := Ideal) x0 x1 x2 i) := by
  unfold expo
  rw [val_main_v152_apply, val_main_v151_apply, val_main_v149_apply, val_main_v148_apply, val_main_v144_apply, val_main_v143_apply, val_main_v141_apply, val_main_v140_apply, val_main_v142_apply, val_main_v147_apply, val_main_v146_apply, val_main_v145_apply, val_main_v150_apply, val_main_call7_v1_apply, val_main_call7_v0_apply, val_main_cst_37_apply, val_main_cst_38_apply, val_main_cst_39_apply, val_main_cst_40_apply, val_main_cst_41_apply]

/-- A row of quantised weights: its codes are the weights divided by a positive scale. -/
theorem weights_at (b : Fin 3) (κ : Fin 2) (g : Fin 10) (q : Fin 640) (R : Fin 640 → ℝ)
    (hR : ∀ k, (val_main_v136 (F := Ideal) x0 x1 x2 (ix5 b κ g q k) : EReal) = ((R k : ℝ) : EReal)) :
    ∃ p : ℝ, 0 < p ∧ (val_main_v160 (F := Ideal) x0 x1 x2 (ix5 b κ g q 0) : EReal) = (p : EReal)
      ∧ ∀ k, (val_main_v158 (F := Ideal) x0 x1 x2 (ix5 b κ g q k) : EReal) = ((R k * p⁻¹ : ℝ) : EReal) := by
  obtain ⟨m, hm, m0, hle⟩ := fold_abs_real (n := 640) (by decide)
    (fun k => (val_main_v137 (F := Ideal) x0 x1 x2 (ix5 b κ g q k) : EReal)) R
    (fun k => by rw [val_main_v137_apply, hR]; exact abs_coe' _)
  have h139 : (val_main_v139 (F := Ideal) x0 x1 x2 (ix5 b κ g q 0) : EReal) = (m : EReal) := by
    rw [val_main_v139_apply, ← hm]
    have e : (idx_main_v139 (ix5 b κ g q 0) : S3x2x10x640.Idx) = ix4 b κ g q := by
      funext a; match a with | ⟨0, _⟩ => rfl | ⟨1, _⟩ => rfl | ⟨2, _⟩ => rfl | ⟨3, _⟩ => rfl
    rw [e]
    exact (hostMax _ _ _ red124 _).trans
      (congrArg (Finset.univ.fold max ⊥) (funext fun k => congrArg (val_main_v137 (F := Ideal) x0 x1 x2) (lift124 b κ g q k)))
  obtain ⟨p, p0, p1, p2, p3⟩ := expo_val m m0
  refine ⟨p, p0, ?_, fun k => ?_⟩
  · rw [val_main_v160_apply, val_main_v159_apply, val_main_cst_45_apply, v152_eq, h139]
    exact p2
  · have hw : (val_main_v156 (F := Ideal) x0 x1 x2 (ix5 b κ g q k) : EReal) = ((p⁻¹ : ℝ) : EReal) := by
      have e : (idx_main_v156 (ix5 b κ g q k) : S3x2x10x640x1.Idx) = ix5 b κ g q 0 := row_of b κ g q k
      rw [val_main_v156_apply, e, val_main_v155_apply, val_main_v154_apply, val_main_cst_42_apply, val_main_v153_apply, v152_eq, h139]
      exact p3
    rw [val_main_v158_apply, val_main_call8_v2_apply, val_main_v157_apply, hw, hR, val_main_call8_v1_apply,
      val_main_call8_v4_apply, val_main_call8_v0_apply, val_main_call8_v3_apply, val_main_cst_43_apply, val_main_cst_44_apply]
    exact scaled_clip (hle k) p0 p1

/-- The reference's result, an element at a time. -/
theorem v163_at (hx : ∀ j, x0 j = ((X j : ℝ) : EReal)) (hk : ∀ j, x1 j = ((K j : ℝ) : EReal)) (hv : ∀ j, x2 j = ((V j : ℝ) : EReal))
    (b : Fin 3) (κ : Fin 2) (g : Fin 10) (q : Fin 640) (d : Fin 128) :
    (val_main_v163 (F := Ideal) x0 x1 x2 (ix5 b κ g q d) : EReal)
      = ((att (kOf K b κ) (kOf V b κ) (qOf X b κ g q) (slope ((κ : ℕ) * 10 + g)) q d : ℝ) : EReal) := by
  obtain ⟨M, hM⟩ := softmax_at x0 x1 X K hx hk b κ g q
  choose p p0 p1 p2 using value_at x2 V hv b κ
  have h136 : ∀ k, (val_main_v136 (F := Ideal) x0 x1 x2 (ix5 b κ g q k) : EReal)
      = ((wgt X K M b κ g q k * (∑ k, wgt X K M b κ g q k)⁻¹ * p k : ℝ) : EReal) := by
    intro k
    rw [val_main_v136_apply, hM, p1 k g q, EReal.coe_mul _ (p k)]
    rfl
  obtain ⟨s, s0, s1, s2⟩ := weights_at x0 x1 x2 b κ g q _ h136
  have h161 : (val_main_v161 (F := Ideal) x0 x1 x2 (ix5 b κ g q d) : EReal)
      = ((∑ k, (wgt X K M b κ g q k * (∑ k, wgt X K M b κ g q k)⁻¹ * p k * s⁻¹) * (kOf V b κ k d * (p k)⁻¹) : ℝ) : EReal) := by
    rw [val_main_v161_apply, ← coe_sum']
    refine Finset.sum_congr rfl fun k _ => ?_
    have e1 : lidx_main_v161 (ix5 b κ g q d) k = (ix5 b κ g q k : S3x2x10x640x640.Idx) := by
      funext a; match a with | ⟨0, _⟩ => rfl | ⟨1, _⟩ => rfl | ⟨2, _⟩ => rfl | ⟨3, _⟩ => rfl | ⟨4, _⟩ => rfl
    have e2 : ridx_main_v161 (ix5 b κ g q d) k = (ix4 b κ k d : S3x2x640x128.Idx) := by
      funext a; match a with | ⟨0, _⟩ => rfl | ⟨1, _⟩ => rfl | ⟨2, _⟩ => rfl | ⟨3, _⟩ => rfl
    rw [e1, e2, s2, p2 k d, ← EReal.coe_mul]
  have h162 : (val_main_v162 (F := Ideal) x0 x1 x2 (ix5 b κ g q d) : EReal) = (s : EReal) := by
    rw [val_main_v162_apply, ← s1]
    exact congrArg _ (by funext a; match a with | ⟨0, _⟩ => rfl | ⟨1, _⟩ => rfl | ⟨2, _⟩ => rfl | ⟨3, _⟩ => rfl | ⟨4, _⟩ => rfl)
  rw [val_main_v163_apply, h161, h162, ← mean_eq_att X K V M]
  show ((_ : ℝ) : EReal) * (s : EReal) = _
  rw [← EReal.coe_mul, Finset.sum_mul]
  refine congrArg Real.toEReal (Finset.sum_congr rfl fun k _ => ?_)
  have := (p0 k).ne'
  have := s0.ne'
  generalize (∑ k, wgt X K M b κ g q k)⁻¹ = D
  field_simp

/-- The reference's result, in the layout of its result buffer. -/
theorem v166_at (hx : ∀ j, x0 j = ((X j : ℝ) : EReal)) (hk : ∀ j, x1 j = ((K j : ℝ) : EReal)) (hv : ∀ j, x2 j = ((V j : ℝ) : EReal))
    (b : Fin 3) (κ : Fin 2) (g : Fin 10) (q : Fin 640) (d : Fin 128) :
    (val_main_v166 (F := Ideal) x0 x1 x2 (ix3 b q ⟨(κ : ℕ) * 1280 + g * 128 + d, by omega⟩ : S3x640x2560.Idx) : EReal)
      = ((att (kOf K b κ) (kOf V b κ) (qOf X b κ g q) (slope ((κ : ℕ) * 10 + g)) q d : ℝ) : EReal) := by
  rw [val_main_v166_apply, val_main_v165_apply, val_main_v164_apply, ← v163_at x0 x1 x2 X K V hx hk hv]
  have e : (idx_main_v165 (idx_main_v166 (ix3 b q ⟨(κ : ℕ) * 1280 + g * 128 + d, by omega⟩ : S3x640x2560.Idx)) : S3x2x10x640x128.Idx)
      = ix5 b κ g q d := by
    funext a
    match a with
    | ⟨0, _⟩ => exact Fin.ext (by show (((b : ℕ) * 640 + q) * 2560 + ((κ : ℕ) * 1280 + g * 128 + d)) / 1638400 = b; omega)
    | ⟨1, _⟩ => exact Fin.ext (by show (((b : ℕ) * 640 + q) * 2560 + ((κ : ℕ) * 1280 + g * 128 + d)) / 1280 % 2 = κ; omega)
    | ⟨2, _⟩ => exact Fin.ext (by show (((b : ℕ) * 640 + q) * 2560 + ((κ : ℕ) * 1280 + g * 128 + d)) / 128 % 10 = g; omega)
    | ⟨3, _⟩ => exact Fin.ext (by show (((b : ℕ) * 640 + q) * 2560 + ((κ : ℕ) * 1280 + g * 128 + d)) / 2560 % 640 = q; omega)
    | ⟨4, _⟩ => exact Fin.ext (by show (((b : ℕ) * 640 + q) * 2560 + ((κ : ℕ) * 1280 + g * 128 + d)) % 128 = d; omega)
  rw [e]
  rfl

end Cert.ReferenceIdeal.Att
-- ==== Proof.Ker.Final.lean ====
/- The first result of the kernel's run: the attention of the inputs, at every element. -/
module

public import proofs.«01_k».proof.Proof.IdealRun.Value
public import proofs.«01_k».proof.Proof.Ker.Pieces
public import proofs.«01_k».proof.Proof.Ker.Blocks
public import proofs.«01_k».proof.Proof.Ref.Value

@[expose] public section

set_option maxRecDepth 1000000

noncomputable section

namespace Cert.KernelIdeal.Ker

open Cert.KernelIdeal Cert.KernelIdeal.Gen Idealize.ShloMosaic Idealize.ShloMosaic.TcCoe

/-- The attention of the inputs at an element of the result: batch, position, and the column of a head's feature. -/
def outAt (X : S3x640x2560.Idx → ℝ) (K W : S3x640x256.Idx → ℝ) (y : S3x640x2560.Idx) : EReal :=
  (att (ReferenceIdeal.Att.kOf K (y 0) ⟨(y 2 : ℕ) / 1280, by have : (y 2 : ℕ) < 2560 := (y 2).isLt; omega⟩)
    (ReferenceIdeal.Att.kOf W (y 0) ⟨(y 2 : ℕ) / 1280, by have : (y 2 : ℕ) < 2560 := (y 2).isLt; omega⟩)
    (ReferenceIdeal.Att.qOf X (y 0) ⟨(y 2 : ℕ) / 1280, by have : (y 2 : ℕ) < 2560 := (y 2).isLt; omega⟩ ⟨(y 2 : ℕ) % 1280 / 128, by omega⟩ (y 1))
    (ReferenceIdeal.Att.slope ((y 2 : ℕ) / 1280 * 10 + (y 2 : ℕ) % 1280 / 128)) (y 1) ⟨(y 2 : ℕ) % 128, by omega⟩ : ℝ)

theorem outAt_ix3 (X : S3x640x2560.Idx → ℝ) (K W : S3x640x256.Idx → ℝ) (b : Fin 3) (q : Fin 640) (κ : Fin 2) (g : Fin 10) (d : Fin 128) :
    outAt X K W (ix3 b q ⟨(κ : ℕ) * 1280 + g * 128 + d, by omega⟩)
      = ((att (ReferenceIdeal.Att.kOf K b κ) (ReferenceIdeal.Att.kOf W b κ) (ReferenceIdeal.Att.qOf X b κ g q) (ReferenceIdeal.Att.slope ((κ : ℕ) * 10 + g)) q d : ℝ) : EReal) := by
  have e1 : ((κ : ℕ) * 1280 + g * 128 + d) / 1280 = κ := by omega
  have e2 : ((κ : ℕ) * 1280 + g * 128 + d) % 1280 / 128 = g := by omega
  have e3 : ((κ : ℕ) * 1280 + g * 128 + d) % 128 = d := by omega
  have key : ∀ (κ' : Fin 2) (g' : Fin 10) (d' : Fin 128), κ' = κ → g' = g → d' = d →
      ((att (ReferenceIdeal.Att.kOf K b κ') (ReferenceIdeal.Att.kOf W b κ') (ReferenceIdeal.Att.qOf X b κ' g' q)
        (ReferenceIdeal.Att.slope ((κ' : ℕ) * 10 + g')) q d' : ℝ) : EReal)
      = ((att (ReferenceIdeal.Att.kOf K b κ) (ReferenceIdeal.Att.kOf W b κ) (ReferenceIdeal.Att.qOf X b κ g q)
        (ReferenceIdeal.Att.slope ((κ : ℕ) * 10 + g)) q d : ℝ) : EReal) := by
    rintro _ _ _ rfl rfl rfl; rfl
  exact key ⟨((κ : ℕ) * 1280 + g * 128 + d) / 1280, by omega⟩ ⟨((κ : ℕ) * 1280 + g * 128 + d) % 1280 / 128, by omega⟩
    ⟨((κ : ℕ) * 1280 + g * 128 + d) % 128, by omega⟩ (Fin.ext e1) (Fin.ext e2) (Fin.ext e3)

variable (m : (ℓ : Loc nD τ sig) → Buf (Elt Ideal) ℓ) (c : Dev nD)
  (X : S3x640x2560.Idx → ℝ) (K W : S3x640x256.Idx → ℝ)
  (hx : ∀ j, (m ((c : Thread nD τ).loc main_arg0) : S3x640x2560.Idx → EReal) j = ((X j : ℝ) : EReal)) (hX : ∀ j, |X j| ≤ bf16Max)
  (hk : ∀ j, (m ((c : Thread nD τ).loc main_arg1) : S3x640x256.Idx → EReal) j = ((K j : ℝ) : EReal)) (hK : ∀ j, |K j| ≤ bf16Max)
  (hv : ∀ j, (m ((c : Thread nD τ).loc main_arg2) : S3x640x256.Idx → EReal) j = ((W j : ℝ) : EReal)) (hW : ∀ j, |W j| ≤ bf16Max)

include hx hX hk hK hv hW in
/-- What a grid point leaves in its block of the result. -/
theorem point_at (t : Fin cfg0.N) (y : S1x640x1280.Idx) :
    (outsAt0 m c t : S1x640x1280.Idx → EReal) y
      = G (ReferenceIdeal.Att.kOf K (bOf t) (kOfPt t)) (ReferenceIdeal.Att.kOf W (bOf t) (kOfPt t))
          (fun q C => X (ix3 (bOf t) q ⟨(kOfPt t : ℕ) * 1280 + C, by have := (kOfPt t).isLt; omega⟩))
          (fun g => ReferenceIdeal.Att.slope ((kOfPt t : ℕ) * 10 + g)) y := by
  unfold outsAt0 out0_A_5
  exact View.read_writes_apply_of_pieces VO0_5 VO0_5.junk _ _
    (pieces c _ _ _ _ _ _ _ _ _ _ _ _ _ _ _ _ _ _ _ _ _ _ _ _ _ _ _ _ _ _ _ _ _ _ _ _ _ _ _ _ _ _ _ _ _ _
      (fun q C => (iblk0_at m c t q C).trans (hx _)) (fun q C => hX _)
      (fun s d => (iblk1_at m c t s d).trans (hk _)) (fun s d => hK _)
      (fun s d => (iblk2_at m c t s d).trans (hv _)) (fun s d => hW _)
      (iblk3_at m c t) (iblk4_at m c t)).mem
    y (cover0_A_5 c _ _ _ _ _ _ _ _ _ _ _ _ _ _ _ _ _ _ _ _ _ _ _ _ _ _ _ _ _ _ _ _ _ _ _ _ _ _ _ _ _ _ _ _ _ _ y)

include hx hX hk hK hv hW in
/-- The array the run leaves in the first result. -/
theorem final_at : (dats m 0 c).arrAt 5 cfg0.N = (outAt X K W : S3x640x2560.Idx → EReal) := by
  refine (dats m 0 c).arrAt_eq_of_covers 5 _ (by decide +kernel) fun t hf y => ?_
  refine (congrFun (Value.flushed5 m c t) y).trans ((point_at m c X K W hx hX hk hK hv hW t y).trans ?_)
  have hy1 : (y 1 : ℕ) < 640 := (y 1).isLt
  have hy2 : (y 2 : ℕ) < 1280 := (y 2).isLt
  have hb := (kOfPt t).isLt
  have e : (((cfg0.win 5).blk t).view.emb y : S3x640x2560.Idx)
      = ix3 (bOf t) ⟨y 1, hy1⟩ ⟨(kOfPt t : ℕ) * 1280 + ((⟨(y 2 : ℕ) / 128, by omega⟩ : Fin 10) : ℕ) * 128
          + ((⟨(y 2 : ℕ) % 128, by omega⟩ : Fin 128) : ℕ), by show (kOfPt t : ℕ) * 1280 + (y 2 : ℕ) / 128 * 128 + (y 2 : ℕ) % 128 < 2560; omega⟩ := by
    funext a
    apply Fin.ext
    blk_simp [index5]
    have hy0 : (y 0 : ℕ) < 1 := (y 0).isLt
    match a with
    | ⟨0, _⟩ => show (bOf t : ℕ) * 1 + (y 0 : ℕ) = bOf t; omega
    | ⟨1, _⟩ => show 0 * 640 + (y 1 : ℕ) = y 1; omega
    | ⟨2, _⟩ => show (kOfPt t : ℕ) * 1280 + (y 2 : ℕ) = (kOfPt t : ℕ) * 1280 + (y 2 : ℕ) / 128 * 128 + (y 2 : ℕ) % 128; omega
  rw [e]
  refine Eq.trans ?_ (outAt_ix3 X K W (bOf t) ⟨y 1, hy1⟩ (kOfPt t) ⟨(y 2 : ℕ) / 128, by omega⟩ ⟨(y 2 : ℕ) % 128, by omega⟩).symm
  unfold G
  refine congrArg (fun x : ℝ => (x : EReal)) (congrArg (fun x => att _ _ x _ _ _) (funext fun k => ?_))
  refine congrArg X (congrArg (ix3 (bOf t) (⟨y 1, hy1⟩ : Fin 640)) (Fin.ext ?_))
  show (kOfPt t : ℕ) * 1280 + ((y 2 : ℕ) / 128 * 128 + k) = (kOfPt t : ℕ) * 1280 + (y 2 : ℕ) / 128 * 128 + k
  omega

end Cert.KernelIdeal.Ker
-- ==== Proof.Ker.Input.lean ====
/- What the precondition says of the arguments: each element is a real number no bfloat16 exceeds. -/
module

public import proofs.«01_k».proof.Defs
public import proofs.«01_k».proof.Proof.Ker.Scalar

@[expose] public section

noncomputable section

namespace Cert.KernelIdeal.Ker

open Idealize.ShloMosaic

/-- An extended real whose absolute value is at most the largest bfloat16 is a real number so bounded. -/
theorem real_of_ole (a : EReal) (h : Ideal.cmp .ole (max a (-a)) (Ideal.ofBits .f32 0x7F7F0000#32) = 1#1) :
    a = ((a.toReal : ℝ) : EReal) ∧ |a.toReal| ≤ bf16Max := by
  rw [ofBits_bf16Max] at h
  have h' : max a (-a) ≤ ((bf16Max : ℝ) : EReal) := by
    by_contra hn
    simp [Ideal.cmp, hn] at h
  induction a with
  | bot => simp at h'
  | top => simp at h'
  | coe r =>
    refine ⟨rfl, ?_⟩
    have h1 := (max_le_iff.mp h').1
    have h2 := (max_le_iff.mp h').2
    rw [← EReal.coe_neg] at h2
    exact abs_le.mpr ⟨by have := EReal.coe_le_coe_iff.mp h2; show -bf16Max ≤ r; linarith, EReal.coe_le_coe_iff.mp h1⟩

/-- The precondition, an element of each argument at a time. -/
theorem inputs [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ j, (m ((c.tc : Thread Cert.KernelIdeal.nD Cert.KernelIdeal.τ).loc Cert.KernelIdeal.main_arg0) : Cert.KernelIdeal.S3x640x2560.Idx → EReal) j = (((m ((c.tc : Thread Cert.KernelIdeal.nD Cert.KernelIdeal.τ).loc Cert.KernelIdeal.main_arg0) : Cert.KernelIdeal.S3x640x2560.Idx → EReal) j).toReal : EReal)
      ∧ |((m ((c.tc : Thread Cert.KernelIdeal.nD Cert.KernelIdeal.τ).loc Cert.KernelIdeal.main_arg0) : Cert.KernelIdeal.S3x640x2560.Idx → EReal) j).toReal| ≤ bf16Max)
    ∧ (∀ j, (m ((c.tc : Thread Cert.KernelIdeal.nD Cert.KernelIdeal.τ).loc Cert.KernelIdeal.main_arg1) : Cert.KernelIdeal.S3x640x256.Idx → EReal) j = (((m ((c.tc : Thread Cert.KernelIdeal.nD Cert.KernelIdeal.τ).loc Cert.KernelIdeal.main_arg1) : Cert.KernelIdeal.S3x640x256.Idx → EReal) j).toReal : EReal)
      ∧ |((m ((c.tc : Thread Cert.KernelIdeal.nD Cert.KernelIdeal.τ).loc Cert.KernelIdeal.main_arg1) : Cert.KernelIdeal.S3x640x256.Idx → EReal) j).toReal| ≤ bf16Max)
    ∧ (∀ j, (m ((c.tc : Thread Cert.KernelIdeal.nD Cert.KernelIdeal.τ).loc Cert.KernelIdeal.main_arg2) : Cert.KernelIdeal.S3x640x256.Idx → EReal) j = (((m ((c.tc : Thread Cert.KernelIdeal.nD Cert.KernelIdeal.τ).loc Cert.KernelIdeal.main_arg2) : Cert.KernelIdeal.S3x640x256.Idx → EReal) j).toReal : EReal)
      ∧ |((m ((c.tc : Thread Cert.KernelIdeal.nD Cert.KernelIdeal.τ).loc Cert.KernelIdeal.main_arg2) : Cert.KernelIdeal.S3x640x256.Idx → EReal) j).toReal| ≤ bf16Max) :=
  ⟨fun j => real_of_ole _ (congrFun (h c).1 j), fun j => real_of_ole _ (congrFun (h c).2.1 j), fun j => real_of_ole _ (congrFun (h c).2.2 j)⟩

end Cert.KernelIdeal.Ker
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.BitsRun.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.IdealRun.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Ker.Final
public import proofs.«01_k».proof.Proof.Ker.Input
public import Idealize.ShloMosaic.Adequacy
public import Idealize.ShloMosaic.Init

@[expose] public section

noncomputable section

namespace Cert.Proof

open Idealize.ShloMosaic Idealize.SL.Sem Cert.Kernel

/-- The reference's run leaves every semaphore at zero: it has none. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The kernel's first result is the reference's: each element is the attention of the same inputs. -/
theorem algebraic [Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hargs
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨?_, (h c).2⟩) (Cert.ReferenceIdeal.Value.run (F := Ideal) m' g')⟩
  have hin := Cert.KernelIdeal.Ker.inputs m hpre c
  refine ((h c).1.trans (Cert.ReferenceIdeal.Read.val_main_v166_eq (StableHlo.launchContents m' c))).trans ?_
  refine Eq.trans ?_ (Cert.KernelIdeal.Ker.final_at m c _ _ _ (fun j => (hin.1 j).1) (fun j => (hin.1 j).2) (fun j => (hin.2.1 j).1) (fun j => (hin.2.1 j).2)
    (fun j => (hin.2.2 j).1) (fun j => (hin.2.2 j).2)).symm
  refine funext fun (y : Cert.KernelIdeal.S3x640x2560.Idx) => ?_
  have hy : (y 2 : ℕ) < 2560 := (y 2).isLt
  have e : y = ix3 (y 0) (y 1) ⟨((⟨(y 2 : ℕ) / 1280, by omega⟩ : Fin 2) : ℕ) * 1280 + ((⟨(y 2 : ℕ) % 1280 / 128, by omega⟩ : Fin 10) : ℕ) * 128
      + ((⟨(y 2 : ℕ) % 128, by omega⟩ : Fin 128) : ℕ), by show (y 2 : ℕ) / 1280 * 1280 + (y 2 : ℕ) % 1280 / 128 * 128 + (y 2 : ℕ) % 128 < 2560; omega⟩ := by
    funext a
    match a with
    | ⟨0, _⟩ => rfl
    | ⟨1, _⟩ => rfl
    | ⟨2, _⟩ => exact Fin.ext (by show (y 2 : ℕ) = (y 2 : ℕ) / 1280 * 1280 + (y 2 : ℕ) % 1280 / 128 * 128 + (y 2 : ℕ) % 128; omega)
  rw [e]
  exact (Cert.ReferenceIdeal.Att.v166_at _ _ _ _ _ _ (fun j => (congrFun (hargs c).1 j).trans (hin.1 j).1)
    (fun j => (congrFun (hargs c).2.1 j).trans (hin.2.1 j).1) (fun j => (congrFun (hargs c).2.2 j).trans (hin.2.2 j).1) _ _ _ _ _).trans
    (Cert.KernelIdeal.Ker.outAt_ix3 _ _ _ _ _ _ _ _).symm

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  ⟨IdealRules.named_const.statement Cert.KernelIdeal.κ "log2e" .f32 0x3FB8AA3B#32 (((Real.log 2)⁻¹ : ℝ) : EReal) rfl,
    IdealRules.named_const.statement Cert.KernelIdeal.κ "mask" .bf16 0xFE96#16 ⊥ rfl,
    IdealRules.named_const.statement Cert.KernelIdeal.κ "scale" .f32 0x3E0293EE#32 (((Real.sqrt 128)⁻¹ * (Real.log 2)⁻¹ : ℝ) : EReal) rfl⟩,
  algebraic⟩

end Cert.Proof

end
